-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S2x512 : Shape := ⟨2, ![2, 512]⟩
abbrev S8x2x512 : Shape := ⟨3, ![8, 2, 512]⟩
abbrev S8 : Shape := ⟨1, ![8]⟩
abbrev S_ : Shape := ⟨0, ![]⟩
abbrev S512 : Shape := ⟨1, ![512]⟩
abbrev S1x512 : Shape := ⟨2, ![1, 512]⟩
abbrev S1 : Shape := ⟨1, ![1]⟩
abbrev S1x2x512 : Shape := ⟨3, ![1, 2, 512]⟩
abbrev S1x1x512 : Shape := ⟨3, ![1, 1, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x512, .f32⟩
  | .hbm, ⟨1, _⟩ => ⟨S2x512, .f32⟩
  | .local _ .vmem, ⟨0, _⟩ => ⟨S512x512, .f32⟩
  | .local _ .vmem, ⟨1, _⟩ => ⟨S2x512, .f32⟩
  | .local _ .vmem, ⟨2, _⟩ => ⟨S2x512, .f32⟩
  | .local _ .vmem, ⟨3, _⟩ => ⟨S8x2x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_40 : BitVec 32 := 0#32
  let c0_i32_41 : BitVec 32 := 0#32
  ![v2.toNat, 0, 0]
def k0_dev8 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_35 : BitVec 32 := 1#32
  let v53 : BitVec 32 := Scalar.addi v2 c1_i32_35
  let c8_i32_36 : BitVec 32 := 8#32
  let v54 : BitVec 32 := Scalar.remsi v53 c8_i32_36
  let c1_i32_38 : BitVec 32 := 1#32
  let v55 : BitVec 32 := Scalar.muli v54 c1_i32_38
  let v56 : BitVec 32 := Scalar.addi c0_i32_39 v55
  v56.toNat
def k0_dev9 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_42 : BitVec 32 := 2#32
  let v63 : BitVec 32 := Scalar.addi v2 c2_i32_42
  let c8_i32_43 : BitVec 32 := 8#32
  let v64 : BitVec 32 := Scalar.remsi v63 c8_i32_43
  let c1_i32_45 : BitVec 32 := 1#32
  let v65 : BitVec 32 := Scalar.muli v64 c1_i32_45
  let v66 : BitVec 32 := Scalar.addi c0_i32_46 v65
  v66.toNat
def k0_dev10 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_49 : BitVec 32 := 3#32
  let v73 : BitVec 32 := Scalar.addi v2 c3_i32_49
  let c8_i32_50 : BitVec 32 := 8#32
  let v74 : BitVec 32 := Scalar.remsi v73 c8_i32_50
  let c1_i32_52 : BitVec 32 := 1#32
  let v75 : BitVec 32 := Scalar.muli v74 c1_i32_52
  let v76 : BitVec 32 := Scalar.addi c0_i32_53 v75
  v76.toNat
def k0_dev11 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_56 : BitVec 32 := 4#32
  let v83 : BitVec 32 := Scalar.addi v2 c4_i32_56
  let c8_i32_57 : BitVec 32 := 8#32
  let v84 : BitVec 32 := Scalar.remsi v83 c8_i32_57
  let c1_i32_59 : BitVec 32 := 1#32
  let v85 : BitVec 32 := Scalar.muli v84 c1_i32_59
  let v86 : BitVec 32 := Scalar.addi c0_i32_60 v85
  v86.toNat
def k0_dev12 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_63 : BitVec 32 := 5#32
  let v93 : BitVec 32 := Scalar.addi v2 c5_i32_63
  let c8_i32_64 : BitVec 32 := 8#32
  let v94 : BitVec 32 := Scalar.remsi v93 c8_i32_64
  let c1_i32_66 : BitVec 32 := 1#32
  let v95 : BitVec 32 := Scalar.muli v94 c1_i32_66
  let v96 : BitVec 32 := Scalar.addi c0_i32_67 v95
  v96.toNat
def k0_dev13 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_70 : BitVec 32 := 6#32
  let v103 : BitVec 32 := Scalar.addi v2 c6_i32_70
  let c8_i32_71 : BitVec 32 := 8#32
  let v104 : BitVec 32 := Scalar.remsi v103 c8_i32_71
  let c1_i32_73 : BitVec 32 := 1#32
  let v105 : BitVec 32 := Scalar.muli v104 c1_i32_73
  let v106 : BitVec 32 := Scalar.addi c0_i32_74 v105
  v106.toNat
def k0_dev14 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_77 : BitVec 32 := 7#32
  let v113 : BitVec 32 := Scalar.addi v2 c7_i32_77
  let c8_i32_78 : BitVec 32 := 8#32
  let v114 : BitVec 32 := Scalar.remsi v113 c8_i32_78
  let c1_i32_80 : BitVec 32 := 1#32
  let v115 : BitVec 32 := Scalar.muli v114 c1_i32_80
  let v116 : BitVec 32 := Scalar.addi c0_i32_81 v115
  v116.toNat
def k0_off3 (d0 : Dev nD) (c1_i32_84 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v123 : BitVec 32 := Scalar.addi v2 c1_i32_84
  let c8_i32_85 : BitVec 32 := 8#32
  let v124 : BitVec 32 := Scalar.remsi v123 c8_i32_85
  ![v124.toNat]
def k0_off4 (d0 : Dev nD) (c1_i32_84 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v123 : BitVec 32 := Scalar.addi v2 c1_i32_84
  let c8_i32_85 : BitVec 32 := 8#32
  let v124 : BitVec 32 := Scalar.remsi v123 c8_i32_85
  let c0_i32_89 : BitVec 32 := 0#32
  let c0_i32_90 : BitVec 32 := 0#32
  ![v124.toNat, 0, 0]
def k0_off5 (d0 : Dev nD) (c1_i32_84 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v123 : BitVec 32 := Scalar.addi v2 c1_i32_84
  let c8_i32_85 : BitVec 32 := 8#32
  let v124 : BitVec 32 := Scalar.remsi v123 c8_i32_85
  let v131 : Index := Scalar.indexCast v124
  let c0_91 : Index := 0#32
  let c0_92 : Index := 0#32
  ![v131.toNat, 0, 0]
def k0_off6 (d0 : Dev nD) (c1_i32_84 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v123 : BitVec 32 := Scalar.addi v2 c1_i32_84
  let c8_i32_85 : BitVec 32 := 8#32
  let v124 : BitVec 32 := Scalar.remsi v123 c8_i32_85
  let v134 : Index := Scalar.indexCast v124
  let c1_93 : Index := 1#32
  let c0_94 : Index := 0#32
  ![v134.toNat, 1, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩
abbrev S_ : Shape := ⟨0, ![]⟩
abbrev S512 : Shape := ⟨1, ![512]⟩
abbrev S1x512 : Shape := ⟨2, ![1, 512]⟩
abbrev S2x512 : Shape := ⟨2, ![2, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .i32⟩
  | .hbm, ⟨2, _⟩ => ⟨S_, .f32⟩
  | .hbm, ⟨3, _⟩ => ⟨S_, .i32⟩
  | .hbm, ⟨4, _⟩ => ⟨S512, .f32⟩
  | .hbm, ⟨5, _⟩ => ⟨S512, .i32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S1x512, .f32⟩
  | .hbm, ⟨11, _⟩ => ⟨S2x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Rows.lean ====
/-
# Rows and slots

How the kernel's buffers are cut, as contents: a 2 × 512 buffer written row by row, a slot of the 8 × 2 × 512 receive
buffer filled by a copy of a 2 × 512 buffer, and the rows read back from it.  Nothing here speaks of a run.
-/
module

public import proofs.«01_k».proof.Proof.Gen.KernelIdeal.Skeleton
public import proofs.«01_k».proof.Proof.Gen.KernelIdeal.Launch
public import Idealize.ShloMosaic.Lib.Pipeline.Kit
public import Idealize.ShloMosaic.Lib.ValueLayout

@[expose] public section

noncomputable section

namespace Cert.ArgmaxRun

open Cert.KernelIdeal Cert.KernelIdeal.Gen
open Idealize.ShloMosaic Idealize.ShloMosaic.ValueIdx

variable {F : FTy → Type}

/-! ## The memrefs -/

/-- The staged block of `x`. -/
abbrev xM : Memref sig .tc .vmem S512x512 .f32 := Memref.whole cc0_stg0_0
/-- The staged result. -/
abbrev oM : Memref sig .tc .vmem S2x512 .f32 := Memref.whole cc0_stg1_0
/-- The device's own part: its column maxima over its column indices. -/
abbrev pM : Memref sig .tc .vmem S2x512 .f32 := Memref.whole cc0_scratch0
/-- The receive buffer, one slot per device. -/
abbrev cM : Memref sig .tc .vmem S8x2x512 .f32 := Memref.whole cc0_scratch1

/-- The slot at offsets `off`, as the program names it. -/
abbrev slotAt (off : Fin 3 → ℕ) (inb : ∀ a, off a + S1x2x512.size a ≤ S8x2x512.size a) : Memref sig .tc .vmem S2x512 .f32 :=
  (cM.slice (Rect.unit (s := S8x2x512) off S1x2x512.size inb) (fun _ => rfl)).squeeze S2x512 squeezes_S1x2x512_S2x512

/-- Each of the eight slots lies in the receive buffer. -/
theorem slot_inb (s : Fin 8) : ∀ a, (![s.val, 0, 0] : Fin 3 → ℕ) a + S1x2x512.size a ≤ S8x2x512.size a := by
  revert s; decide
/-- Slot `s`. -/
abbrev slotM (s : Fin 8) : Memref sig .tc .vmem S2x512 .f32 := slotAt ![s.val, 0, 0] (slot_inb s)

/-! ## Two rows, one above the other -/

/-- Row `a` over row `b`. -/
def stack2 (a b : Vec F S1x512 .f32) : Vec F S2x512 .f32 :=
  fun i => if (i 0).val = 0 then a (ix2 (0 : Fin 1) (i 1)) else b (ix2 (0 : Fin 1) (i 1))

abbrev row0 : Rect S2x512 := Rect.unit (s := S2x512) ![0, 0] S1x512.size inb_S2x512_S1x512_0_0
abbrev row1 : Rect S2x512 := Rect.unit (s := S2x512) ![1, 0] S1x512.size inb_S2x512_S1x512_1_0

/-- Where the upper row's elements lie, -/
theorem row0_emb (j : Fin 512) : row0.emb (ix2 (0 : Fin 1) j) = (ix2 (0 : Fin 2) j : S2x512.Idx) :=
  funext fun a => by fin_cases a <;> exact Fin.ext (by simp)
/-- and the lower row's. -/
theorem row1_emb (j : Fin 512) : row1.emb (ix2 (0 : Fin 1) j) = (ix2 (1 : Fin 2) j : S2x512.Idx) :=
  funext fun a => by fin_cases a <;> exact Fin.ext (by simp)

/-- No element of the upper row lies in the lower. -/
theorem row0_not_mem_row1 (j : Fin 512) : (ix2 (0 : Fin 2) j : S2x512.Idx) ∉ row1.set := fun h => by
  have h0 := (Rect.mem_set_unit.mp h (0 : Fin 2)).1
  exact absurd h0 (by decide : ¬ (1 ≤ 0))

/-- Row 0 written, then row 1, whatever was there: the two rows stacked. -/
theorem read_rows (v : View sig .tc .vmem S2x512 .f32) (f : v.ty.Contents (Elt F)) (a b : Vec F S1x512 .f32) :
    v.read (Elt F) ((v.slice row1).write (Elt F) ((v.slice row0).write (Elt F) f a Finset.univ) b Finset.univ) = stack2 a b := by
  funext i
  obtain ⟨r, j, rfl⟩ : ∃ (r : Fin 2) (j : Fin 512), i = ix2 r j := ⟨i 0, i 1, funext fun a => by fin_cases a <;> rfl⟩
  rw [View.read_apply]
  have hr : r = 0 ∨ r = 1 := by revert r; decide
  rcases hr with rfl | rfl
  · rw [View.write_of_not_mem (v := v.slice row1) (i := v.emb (ix2 (0 : Fin 2) j))]
    · have e : v.emb (ix2 (0 : Fin 2) j) = (v.slice row0).emb (ix2 (0 : Fin 1) j) := congrArg v.emb (row0_emb j).symm
      rw [e, View.write_emb_of_mem (v := v.slice row0) _ _ (Finset.mem_univ _), cast_cast, cast_eq]
      rfl
    · rw [View.setOn_univ, View.set_slice]
      intro h
      obtain ⟨y, hy, he⟩ := Finset.mem_map.mp h
      exact row0_not_mem_row1 j (v.emb.injective he ▸ hy)
  · have e : v.emb (ix2 (1 : Fin 2) j) = (v.slice row1).emb (ix2 (0 : Fin 1) j) := congrArg v.emb (row1_emb j).symm
    rw [e, View.write_emb_of_mem (v := v.slice row1) _ _ (Finset.mem_univ _), cast_cast, cast_eq]
    rfl

/-- The same of the own-part buffer, -/
theorem write_part (f : (cc0_scratch0 : Ref sig .tc).ty.Contents (Elt F)) (a b : Vec F S1x512 .f32) :
    (pM.access row1 : View sig .tc _ _ _).write (Elt F) ((pM.access row0 : View sig .tc _ _ _).write (Elt F) f a Finset.univ) b Finset.univ
      = stack2 a b :=
  (View.read_whole (Val := Elt F) cc0_scratch0 _).symm.trans (read_rows (View.whole cc0_scratch0) f a b)
/-- and of the staged result. -/
theorem write_out (f : (cc0_stg1_0 : Ref sig .tc).ty.Contents (Elt F)) (a b : Vec F S1x512 .f32) :
    (oM.access row1 : View sig .tc _ _ _).write (Elt F) ((oM.access row0 : View sig .tc _ _ _).write (Elt F) f a Finset.univ) b Finset.univ
      = stack2 a b :=
  (View.read_whole (Val := Elt F) cc0_stg1_0 _).symm.trans (read_rows (View.whole cc0_stg1_0) f a b)

/-- The whole `x` block is what a load of it reads. -/
theorem read_x (f : (cc0_stg0_0 : Ref sig .tc).ty.Contents (Elt F)) :
    (xM : Memref sig .tc .vmem S512x512 .f32).view.readAt (Elt F)
      (Rect.unit (s := S512x512) ![0, 0] S512x512.size inb_S512x512_S512x512_0_0).toLoadRect f = f :=
  Memref.readAt_unit_zero (Elt F) cc0_stg0_0 (funext fun a => by fin_cases a <;> rfl) _ f

/-! ## The receive buffer -/

/-- The receive buffer with part `p s` in slot `s`. -/
def gather (p : Fin 8 → Vec F S2x512 .f32) : Vec F S8x2x512 .f32 := fun i => p (i 0) (ix2 (i 1 : Fin 2) (i 2 : Fin 512))

/-- Row `k` of a part, as a load of it returns it. -/
def rowOf (q : Vec F S2x512 .f32) (k : Fin 2) : Vec F S1x1x512 .f32 := fun j => q (ix2 k (j 2 : Fin 512))

/-- A slot's elements: those of its first coordinate. -/
theorem slot_set (off : Fin 3 → ℕ) (inb) : (slotAt off inb).view.set = (Rect.unit (s := S8x2x512) off S1x2x512.size inb).set := by
  show (((View.whole cc0_scratch1).slice _).reshape S2x512 _).set = _
  rw [View.set_reshape, View.set_slice_whole]

/-- Different slots are apart. -/
theorem slots_disjoint (s s' : Fin 8) (h : s ≠ s') : Disjoint (slotM s).view.set (slotM s').view.set := by
  rw [slot_set, slot_set]
  refine Rect.unit_disjoint (0 : Fin 3) ?_
  show s.val + 1 ≤ s'.val ∨ s'.val + 1 ≤ s.val
  have : s.val ≠ s'.val := fun e => h (Fin.ext e)
  omega

/-- Where a slot's element sits in the buffer. -/
theorem slot_emb (s : Fin 8) (r : Fin 2) (j : Fin 512) :
    (slotM s).view.emb (ix2 r j) = (ix3 s r j : S8x2x512.Idx) := by
  show (Rect.unit (s := S8x2x512) ![s.val, 0, 0] S1x2x512.size (slot_inb s)).emb (Shape.reshapeEquiv squeezes_S1x2x512_S2x512.numel_eq (ix2 r j)) = _
  rw [show Shape.reshapeEquiv squeezes_S1x2x512_S2x512.numel_eq (ix2 r j) = (ix3 (⟨0, Nat.one_pos⟩ : Fin 1) r j : S1x2x512.Idx) from
    reshapeEquiv_ix2_1ab _ r j]
  exact funext fun a => by fin_cases a <;> exact Fin.ext (by simp)

/-- A part copied into slot `s`: on that slot the buffer is as `gather` says. -/
theorem landing (p : Fin 8 → Vec F S2x512 .f32) (s : Fin 8) (fd : Vec F S8x2x512 .f32) :
    ∀ i ∈ (slotM s).view.set, (slotM s).view.write (Elt F) fd (pM.view.read (Elt F) (p s)) Finset.univ i = gather p i := by
  intro i hi
  obtain ⟨y, rfl⟩ := View.exists_emb_of_mem_set _ hi
  obtain ⟨r, j, rfl⟩ : ∃ (r : Fin 2) (j : Fin 512), y = ix2 r j := ⟨y 0, y 1, funext fun a => by fin_cases a <;> rfl⟩
  rw [View.write_emb_of_mem _ _ (Finset.mem_univ _), slot_emb]
  rfl

/-- The elements a one-row load at slot `s` touches lie in the slot. -/
theorem row_subset (s : Fin 8) (k : Fin 2) (off : Fin 3 → ℕ) (hoff : off = ![s.val, k.val, 0]) (inb) :
    cM.view.setOn (Rect.unit (s := S8x2x512) off S1x1x512.size inb).toLoadRect.set ⊆ (slotM s).view.set := by
  subst hoff
  rw [slot_set]
  show Finset.map (Function.Embedding.refl _) _ ⊆ _
  rw [Finset.map_refl]
  intro i hi
  refine Rect.mem_set_unit.mpr fun a => ?_
  have ha := Rect.mem_set_unit.mp hi a
  have hk := k.isLt
  fin_cases a
  · exact ha
  · have h1 : (i 1 : ℕ) < 2 := (i 1).isLt
    exact ⟨Nat.zero_le _, by show (i 1 : ℕ) < 0 + 2; omega⟩
  · exact ha

/-- A one-row load from slot `s` of the gathered buffer returns that row of part `s`. -/
theorem read_row (p : Fin 8 → Vec F S2x512 .f32) (s : Fin 8) (k : Fin 2) (off : Fin 3 → ℕ) (hoff : off = ![s.val, k.val, 0]) (inb) :
    cM.view.readAt (Elt F) (Rect.unit (s := S8x2x512) off S1x1x512.size inb).toLoadRect (gather p) = rowOf (p s) k := by
  subst hoff
  funext j
  have hj0 : (j 0 : ℕ) = 0 := by have := (j 0).isLt; simp at this; omega
  have hj1 : (j 1 : ℕ) = 0 := by have := (j 1).isLt; simp at this; omega
  rw [View.readAt_apply, View.read_apply]
  have e : cM.view.emb ((Rect.unit (s := S8x2x512) ![s.val, k.val, 0] S1x1x512.size inb).toLoadRect.idx j) = (ix3 s k (j 2 : Fin 512) : S8x2x512.Idx) :=
    funext fun a => by
      fin_cases a
      · exact Fin.ext (by show s.val + 1 * (j 0 : ℕ) = s.val; omega)
      · exact Fin.ext (by show k.val + 1 * (j 1 : ℕ) = k.val; omega)
      · exact Fin.ext (by show 0 + 1 * (j 2 : ℕ) = (j 2 : ℕ); omega)
  rw [e]
  rfl

end Cert.ArgmaxRun

end
-- ==== Proof.Protocol.lean ====
/-
# The exchange's protocol

Eight devices.  Device `c`, with peers `peer c 0, …, peer c 6` (the seven others, from `c + 1` round the mesh):

* signals one unit to the barrier semaphore of each peer.  With its unit to `d`, device `c` hands `d` slot `d` of its
  own receive buffer, whatever it holds;
* computes its own part: the maximum of each column of its block over the (global, as a float) index of its first
  occurrence;
* waits for seven units on its barrier semaphore, one from each other device: it now holds slot `c` of every other
  device's receive buffer;
* copies its part into slot `c` of each peer's receive buffer.  The copy to `peer c r` completes on `c`'s send semaphore
  `r + 1`, which returns the share of the part the copy read, and on the peer's receive semaphore `c`, which hands the
  peer its slot `c` holding part `c`;
* for each peer, waits on receive semaphore `peer c r` and reads part `peer c r` out of the slot;
* waits on its seven send semaphores.

Every semaphore is used in one round.  While device `c` waits at its barrier it owes only the completions of its
copies, on receive semaphores, which nobody waits on before their own barrier: barrier cells are levelled below receive
cells.  Send semaphore 0 of every device and receive semaphore `c` of device `c` are never used.
-/
module

public import proofs.«01_k».proof.Proof.Rows
public import Idealize.ShloMosaic.Lib.Pipeline.Launch
public import Idealize.ShloMosaic.Lib.ShareLeaves
public import Idealize.ShloMosaic.Lib.Tactic

@[expose] public section

noncomputable section

namespace Cert.ArgmaxRun

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the exchange's, whose duties are named by devices -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Peers -/

set_option backward.proofsInPublic true in
/-- The `r`-th device after `c`, not counting `c`. -/
def peer (c : Dev nD) (r : ℕ) : Dev nD := ⟨(c.val + r + 1) % 8, Nat.mod_lt _ (by decide)⟩

/-- No device is its own peer, -/
theorem peer_ne (c : Dev nD) (r : Fin 7) : peer c r.val ≠ c := by revert c r; decide
/-- and its seven peers are different. -/
theorem peer_inj (c : Dev nD) (r r' : Fin 7) (h : peer c r.val = peer c r'.val) : r = r' := by revert c r r'; decide
/-- Everybody but `c` is a peer of `c`. -/
theorem erase_eq_peers (c : Dev nD) : (Finset.univ.erase c : Finset (Fin 8)) = Finset.univ.image fun r : Fin 7 => peer c r.val := by
  revert c; decide

/-! ## Semaphores and cells -/

/-- The barrier semaphore. -/
abbrev barS : Sem sig := (SemArray.scalar (sig.barrier 0 rfl) : Sems sig S_).sem
/-- Send semaphore `j`. -/
abbrev sndS (j : Fin 8) : DmaSem sig := ⟨2 + j.val, by have := j.isLt; show _ < 18; omega⟩
/-- Receive semaphore `s`. -/
abbrev rcvS (s : Fin 8) : DmaSem sig := ⟨10 + s.val, by have := s.isLt; show _ < 18; omega⟩

abbrev barCell (c : Dev nD) : GSem nD τ sig := ((c : Thread nD τ), .reg barS)
abbrev sendCell (c : Dev nD) (j : Fin 8) : GSem nD τ sig := ((c : Thread nD τ), .dma (sndS j))
abbrev recvCell (c : Dev nD) (s : Fin 8) : GSem nD τ sig := ((c : Thread nD τ), .dma (rcvS s))

/-- What a copied part counts on a semaphore. -/
abbrev N : ℕ := (slotM 0).view.dmaCredit
/-- A copy counts something. -/
theorem N_pos : 0 < N := View.dmaCredit_pos _ (by decide)

/-! ## Contents -/

/-- Device `c`'s staged block of `x`. -/
def xstg (c : Dev nD) : (cc0_stg0_0 : Ref sig .tc).ty.Contents (Elt F) :=
  (win0_0.blk (0 : Fin 1)).view.read (Elt F) ((s₀ m ρ).mem ((c : Thread nD τ).loc main_arg0))

/-- The device's number as the program computes it. -/
abbrev devWord (c : Dev nD) : BitVec 32 := Scalar.remsi (Scalar.divsi (Dev.word c) 1#32) 8#32

/-- Device `c`'s part: its column maxima over their indices. -/
def part (c : Dev nD) : Vec F S2x512 .f32 := stack2 (k0_pay4 (xstg m ρ c)) (k0_pay5 (devWord c) (xstg m ρ c))

/-- What every receive buffer holds, on the slots that are filled. -/
def landed : Vec F S8x2x512 .f32 := gather (part m ρ)

/-- Slot `s` of device `p`'s receive buffer at contents `f`. -/
def slotPts (p : Dev nD) (s : Fin 8) (f : Vec F S8x2x512 .f32) : sProp 𝕄 :=
  (slotM s).view.loc (p : Thread nD τ) ↦[(slotM s).view.set]{fullShare} f
/-- The share of device `c`'s part that its `j`-th copy reads. -/
def partPts (c : Dev nD) (j : Fin 8) : sProp 𝕄 :=
  (pM : Memref sig .tc .vmem S2x512 .f32).view.loc (c : Thread nD τ)
    ↦[(pM : Memref sig .tc .vmem S2x512 .f32).view.set]{ShareLeaves.leaf 3 fullShare j} part m ρ c

omit [FloatOps F] in
instance slotPts_storable (p : Dev nD) (s : Fin 8) (f) : BI.Storable (upEmb : UEmb _ 𝕄) (slotPts (F := F) p s f) := by unfold slotPts; infer_instance
instance partPts_storable (c : Dev nD) (j : Fin 8) : BI.Storable (upEmb : UEmb _ 𝕄) (partPts (F := F) m ρ c j) := by unfold partPts; infer_instance

/-! ## The schedule -/

/-- Which copies there are: a send cell other than the first, a receive cell other than the device's own. -/
abbrev IsXfer (c : Dev nD) (q : DmaSem sig) : Prop := 3 ≤ q.val ∧ q.val ≠ 10 + c.val

/-- The duties of a cell in its one round. -/
def dutiesOf (c : Dev nD) : SemLoc sig → Finset (Fin 8)
  | .reg _ => Finset.univ.erase c
  | .dma q => if IsXfer c q then {0} else ∅

/-- What a duty's fulfilment hands the cell's owner: at the barrier the payer's slot, at a send cell the copy's share of the
    part, at a receive cell the slot filled. -/
def payOf (c : Dev nD) : SemLoc sig → Fin 8 → sProp 𝕄
  | .reg _, d => iprop(∃ f, slotPts d c f)
  | .dma q, _ => if q.val < 10 then partPts m ρ c ⟨(q.val - 2) % 8, Nat.mod_lt _ (by decide)⟩
      else slotPts c ⟨(q.val - 10) % 8, Nat.mod_lt _ (by decide)⟩ (landed m ρ)

def amountOf' : SemLoc sig → ℕ
  | .reg _ => 1
  | .dma _ => N

/-- The schedule: one round, round 0, on the TensorCores' cells. -/
def xRd : Rounds.Schedule (GSem nD τ sig) (Fin 8) 𝕄 where
  duties g r := if r = 0 ∧ g.1.2 = .tc then dutiesOf g.1.1 g.2 else ∅
  unitless _ := False
  amount g _ _ := amountOf' g.2
  payload g _ d := payOf m ρ g.1.1 g.2 d
  amount_pos g _ _ _ := by
    rcases g with ⟨_, _ | _⟩
    · exact Nat.one_pos
    · exact N_pos

instance xRd_payload_storable (g : GSem nD τ sig) (r : ℕ) (d : Fin 8) :
    BI.Storable (upEmb : UEmb _ 𝕄) ((xRd (F := F) m ρ).payload g r d) := by
  rcases g with ⟨⟨c, t⟩, q | q⟩
  · show BI.Storable upEmb iprop(∃ f, slotPts d c f)
    infer_instance
  · show BI.Storable upEmb (if q.val < 10 then partPts m ρ c ⟨(q.val - 2) % 8, Nat.mod_lt _ (by decide)⟩
      else slotPts c ⟨(q.val - 10) % 8, Nat.mod_lt _ (by decide)⟩ (landed m ρ))
    split <;> infer_instance

section Sched
variable (c : Dev nD)

/-- All send cells but the first belong to copies, -/
theorem xfer_send (j : Fin 8) (hj : j ≠ 0) : IsXfer c (sndS j) := by
  have h0 : j.val ≠ 0 := fun h => hj (Fin.ext h)
  have := j.isLt
  exact ⟨by show 3 ≤ 2 + j.val; omega, by show 2 + j.val ≠ 10 + c.val; omega⟩
/-- and all receive cells but the device's own. -/
theorem xfer_recv (s : Fin 8) (hs : s ≠ c) : IsXfer c (rcvS s) := by
  have h0 : s.val ≠ c.val := fun h => hs (Fin.ext h)
  exact ⟨by show 3 ≤ 10 + s.val; omega, by show 10 + s.val ≠ 10 + c.val; omega⟩

/-- A cell's duties in round 0, -/
theorem duties_first (sm : SemLoc sig) : (xRd (F := F) m ρ).duties ((c : Thread nD τ), sm) 0 = dutiesOf c sm := by
  dsimp only [xRd]; exact if_pos ⟨rfl, rfl⟩
/-- and none after it. -/
theorem duties_later (g : GSem nD τ sig) : ∀ r, 1 ≤ r → (xRd (F := F) m ρ).duties g r = ∅ :=
  fun r hr => by dsimp only [xRd]; rw [if_neg fun h => by omega]
/-- A barrier cell is signalled by everybody else, -/
theorem duties_bar : (xRd (F := F) m ρ).duties (barCell c) 0 = Finset.univ.erase c := duties_first m ρ c _
/-- a send cell paid by one copy, -/
theorem duties_send (j : Fin 8) (hj : j ≠ 0) : (xRd (F := F) m ρ).duties (sendCell c j) 0 = {0} :=
  (duties_first m ρ c _).trans (if_pos (xfer_send c j hj))
/-- and so is a receive cell. -/
theorem duties_recv (s : Fin 8) (hs : s ≠ c) : (xRd (F := F) m ρ).duties (recvCell c s) 0 = {0} :=
  (duties_first m ρ c _).trans (if_pos (xfer_recv c s hs))
/-- A cell of no copy has no duty at all. -/
theorem duties_unused (q : DmaSem sig) (hq : ¬ IsXfer c q) :
    ∀ r, 0 ≤ r → (xRd (F := F) m ρ).duties ((c : Thread nD τ), .dma q) r = ∅ := fun r _ => by
  rcases Nat.eq_zero_or_pos r with rfl | hr
  · exact (duties_first m ρ c _).trans (if_neg hq)
  · exact duties_later m ρ _ r hr
/-- The first send semaphore is unused, -/
theorem unused_send (c : Dev nD) : ¬ IsXfer c (sndS 0) := fun h => absurd h.1 (by decide)
/-- and so is the device's own receive semaphore. -/
theorem unused_recv (c : Dev nD) : ¬ IsXfer c (rcvS c) := fun h => h.2 rfl

/-- A barrier's round is seven units, -/
theorem expect_bar : (xRd (F := F) m ρ).expect (barCell c) 0 = 7 := by
  unfold Schedule.expect Schedule.amountOf
  rw [duties_bar]
  show ∑ _d ∈ _, 1 = 7
  rw [Finset.sum_const, Finset.card_erase_of_mem (Finset.mem_univ _)]
  rfl
/-- a send cell's one copy, -/
theorem expect_send (j : Fin 8) (hj : j ≠ 0) : (xRd (F := F) m ρ).expect (sendCell c j) 0 = N := by
  unfold Schedule.expect Schedule.amountOf; rw [duties_send m ρ c j hj, Finset.sum_singleton]; rfl
/-- a receive cell's one copy. -/
theorem expect_recv (s : Fin 8) (hs : s ≠ c) : (xRd (F := F) m ρ).expect (recvCell c s) 0 = N := by
  unfold Schedule.expect Schedule.amountOf; rw [duties_recv m ρ c s hs, Finset.sum_singleton]; rfl

/-- A copy that has left returns its share of the part, -/
theorem payload_send (j d : Fin 8) : (xRd (F := F) m ρ).payload (sendCell c j) 0 d = partPts m ρ c j := by
  have hj := j.isLt
  refine (if_pos (by show 2 + j.val < 10; omega)).trans (congrArg (partPts m ρ c) (Fin.ext ?_))
  show (2 + j.val - 2) % 8 = j.val
  omega
/-- one that has landed hands over the slot with the sender's part. -/
theorem payload_recv (s d : Fin 8) : (xRd (F := F) m ρ).payload (recvCell c s) 0 d = slotPts c s (landed m ρ) := by
  have hs := s.isLt
  refine (if_neg (by show ¬ 10 + s.val < 10; omega)).trans (congrArg (fun s => slotPts c s (landed m ρ)) (Fin.ext ?_))
  show (10 + s.val - 10) % 8 = s.val
  omega

/-- A signal hands over the slot of the device that it signals. -/
theorem payload_bar (d : Fin 8) : (xRd (F := F) m ρ).payload (barCell c) 0 d = iprop(∃ f, slotPts (F := F) d c f) := rfl
/-- All of a barrier cell's round: slot `c` of every peer. -/
theorem rest_bar : bigSep ((xRd (F := F) m ρ).duties (barCell c) 0 \ ∅) (fun d => (xRd (F := F) m ρ).payload (barCell c) 0 d)
    = bigSep Finset.univ fun r : Fin 7 => iprop(∃ f, slotPts (F := F) (peer c r.val) c f) := by
  rw [Finset.sdiff_empty, duties_bar, erase_eq_peers,
    bigSep_image_of_injOn (fun r _ r' _ h => peer_inj c r r' h)]
  rfl
/-- All of a send cell's round: the share, -/
theorem rest_send (j : Fin 8) (hj : j ≠ 0) :
    bigSep ((xRd (F := F) m ρ).duties (sendCell c j) 0 \ ∅) (fun d => (xRd (F := F) m ρ).payload (sendCell c j) 0 d) = partPts m ρ c j := by
  rw [Finset.sdiff_empty, duties_send m ρ c j hj, bigSep_singleton, payload_send]
/-- and of a receive cell's: the slot, filled. -/
theorem rest_recv (s : Fin 8) (hs : s ≠ c) :
    bigSep ((xRd (F := F) m ρ).duties (recvCell c s) 0 \ ∅) (fun d => (xRd (F := F) m ρ).payload (recvCell c s) 0 d) = slotPts c s (landed m ρ) := by
  rw [Finset.sdiff_empty, duties_recv m ρ c s hs, bigSep_singleton, payload_recv]

end Sched

/-! ## What each core owes at launch; the levels -/

/-- The completions of device `c`'s last `n` copies. -/
def owedCopies (c : Dev nD) : ℕ → CellTallies nD τ sig Unit
  | 0 => 0
  | n + 1 => owedCopies c n + tallyAt (recvCell (peer c (6 - n)) c) () N
/-- All its copies' completions and its last `n` signals. -/
def owedAll (c : Dev nD) : ℕ → CellTallies nD τ sig Unit
  | 0 => owedCopies c 7
  | n + 1 => owedAll c n + tallyAt (barCell (peer c (6 - n))) () 1
/-- What device `c` owes at launch: seven signals, then seven copies. -/
def O₀ (c : Dev nD) : CellTallies nD τ sig Unit := owedAll c 7

def L (g : GSem nD τ sig) : Finset Unit := if g.1.2 = .tc then {()} else ∅
/-- Barrier cells at 1, receive cells at 2, staging and send cells at 0. -/
def lv (g : GSem nD τ sig) (_ : Unit) : ℕ := match g.2 with
  | .reg _ => 1
  | .dma q => if q.val < 10 then 0 else 2

/-- Only the TensorCores' cells have a level, -/
theorem L_of_ne (g : GSem nD τ sig) (h : g.1.2 ≠ .tc) : L g = ∅ := if_neg h
/-- and all of theirs have one. -/
theorem L_tc (c : Dev nD) (sm : SemLoc sig) : L ((c : Thread nD τ), sm) = {()} := if_pos rfl
/-- Receive cells are at level 2. -/
theorem lv_recv (c : Dev nD) (s : Fin 8) : lv (recvCell c s) () = 2 := if_neg (by show ¬ 10 + s.val < 10; omega)

/-- Copies are owed to receive cells only, -/
theorem owedCopies_pos {c : Dev nD} {g : GSem nD τ sig} {u : Unit} (n : ℕ) (h : 0 < owedCopies c n g u) :
    ∃ p, g = recvCell p c := by
  induction n with
  | zero => exact absurd h (Nat.lt_irrefl 0)
  | succ n ih =>
    rw [owedCopies, Pi.add_apply, Finsupp.add_apply, tallyAt_apply] at h
    by_cases hg : g = recvCell (peer c (6 - n)) c ∧ u = ()
    · exact ⟨_, hg.1⟩
    · rw [if_neg hg, Nat.add_zero] at h; exact ih h
/-- and everything owed is owed to receive cells and barriers. -/
theorem owedAll_pos {c : Dev nD} {g : GSem nD τ sig} {u : Unit} (n : ℕ) (h : 0 < owedAll c n g u) :
    (∃ p, g = recvCell p c) ∨ ∃ p, g = barCell p := by
  induction n with
  | zero => exact Or.inl (owedCopies_pos 7 h)
  | succ n ih =>
    rw [owedAll, Pi.add_apply, Finsupp.add_apply, tallyAt_apply] at h
    by_cases hg : g = barCell (peer c (6 - n)) ∧ u = ()
    · exact Or.inr ⟨_, hg.1⟩
    · rw [if_neg hg, Nat.add_zero] at h; exact ih h

/-- A wait on a staging cell is below everything owed. -/
theorem mayWait_stage (c : Dev nD) (q : DmaSem sig) (hq : q.val < 10) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedAll_pos 7 hg with ⟨p, rfl⟩ | ⟨p, rfl⟩ <;> exact Finset.mem_singleton_self _)
      (fun p hp => by rw [Finset.mem_singleton.mp hp]; exact le_of_eq (if_pos hq))
      (fun g u hg => by
        rcases owedAll_pos 7 hg with ⟨p, rfl⟩ | ⟨p, rfl⟩
        · rw [lv_recv]; decide
        · exact Nat.one_pos)
  · rw [MayWait_zero]; iintro -; iempintro

/-- At its barrier a device owes completions on receive cells only, which are above it. -/
theorem mayWait_bar (c : Dev nD) :
    (levAts L lv : sProp 𝕄) ⊢ MayWait (c : Thread nD τ) (.reg barS) () (owedCopies c 7) :=
  MayOwe.of_cut (L := L) (lev := lv) 1 (fun p hp => by rw [Finset.mem_singleton.mp hp, L_tc]; exact Finset.mem_singleton_self _)
    (fun g u hg => by obtain ⟨p, rfl⟩ := owedCopies_pos 7 hg; exact Finset.mem_singleton_self _)
    (fun p hp => by rw [Finset.mem_singleton.mp hp]; exact le_refl 1)
    (fun g u hg => by obtain ⟨p, rfl⟩ := owedCopies_pos 7 hg; rw [lv_recv]; decide)

/-! ## The cells by number, and what every device may know of them -/

/-- A device's cells: the barrier, the eight send cells, the eight receive cells. -/
def csem (k : Fin 17) : SemLoc sig := if k.val = 0 then .reg barS else .dma ⟨(k.val + 1) % 18, Nat.mod_lt _ (by decide)⟩
abbrev kcell (ck : Dev nD × Fin 17) : GSem nD τ sig := ((ck.1 : Thread nD τ), csem ck.2)
/-- The number of a send cell, and of a receive cell. -/
abbrev kS (j : Fin 8) : Fin 17 := ⟨j.val + 1, by have := j.isLt; omega⟩
abbrev kR (s : Fin 8) : Fin 17 := ⟨s.val + 9, by have := s.isLt; omega⟩

/-- The numbers name the send semaphores, -/
theorem csem_send (j : Fin 8) : csem (kS j) = .dma (sndS j) := by
  have hj := j.isLt
  refine (if_neg (by show ¬ j.val + 1 = 0; omega)).trans (congrArg SemLoc.dma (Fin.ext ?_))
  show (j.val + 1 + 1) % 18 = 2 + j.val
  omega
/-- and the receive semaphores. -/
theorem csem_recv (s : Fin 8) : csem (kR s) = .dma (rcvS s) := by
  have hs := s.isLt
  refine (if_neg (by show ¬ s.val + 9 = 0; omega)).trans (congrArg SemLoc.dma (Fin.ext ?_))
  show (s.val + 9 + 1) % 18 = 10 + s.val
  omega

/-- The cells' invariants under the names `K`, and that every cell is at its round. -/
def records (K : Dev nD × Fin 17 → ℕ) : sProp 𝕄 :=
  iprop((bigSep Finset.univ fun ck : Dev nD × Fin 17 => cellInv ER (xRd m ρ) (K ck) (kcell ck))
    ∗ bigSep Finset.univ fun ck : Dev nD × Fin 17 => reached ER (kcell ck) 0)

instance records_persistent (K : Dev nD × Fin 17 → ℕ) : BI.Persistent (records m ρ K) := by unfold records; infer_instance

/-- The records hold each cell's invariant, -/
theorem inv_at (K : Dev nD × Fin 17 → ℕ) (ck : Dev nD × Fin 17) (g : GSem nD τ sig) (hg : kcell ck = g) :
    (records m ρ K : sProp 𝕄) ⊢ cellInv ER (xRd m ρ) (K ck) g := by
  subst hg; unfold records
  iintro ⟨#HI, -⟩
  iapply (show (bigSep Finset.univ fun ck : Dev nD × Fin 17 => (cellInv ER (xRd m ρ) (K ck) (kcell ck) : sProp 𝕄)) ⊢ cellInv ER (xRd m ρ) (K ck) (kcell ck) from
    bigSep_elim (Finset.mem_univ ck)); iexact HI
/-- and that its round is reached. -/
theorem reached_at (K : Dev nD × Fin 17 → ℕ) (ck : Dev nD × Fin 17) (g : GSem nD τ sig) (hg : kcell ck = g) :
    (records m ρ K : sProp 𝕄) ⊢ reached ER g 0 := by
  subst hg; unfold records
  iintro ⟨-, #HR⟩
  iapply (show (bigSep Finset.univ fun ck : Dev nD × Fin 17 => (reached ER (kcell ck) 0 : sProp 𝕄)) ⊢ reached ER (kcell ck) 0 from
    bigSep_elim (Finset.mem_univ ck)); iexact HR

/-- Cell 0 is the barrier's, -/
theorem kcell_bar (c : Dev nD) : kcell (c, 0) = barCell c := rfl
/-- cells 1 to 8 the send cells, -/
theorem kcell_send (c : Dev nD) (j : Fin 8) : kcell (c, kS j) = sendCell c j := congrArg (Prod.mk (c : Thread nD τ)) (csem_send j)
/-- cells 9 to 16 the receive cells. -/
theorem kcell_recv (c : Dev nD) (s : Fin 8) : kcell (c, kR s) = recvCell c s := congrArg (Prod.mk (c : Thread nD τ)) (csem_recv s)

end Cert.ArgmaxRun

end
-- ==== Proof.Steps.lean ====
/-
# The exchange, one effect at a time

What a device holds towards its `r`-th peer, stage by stage, and the five effects that lead from one stage to the next:
the signal, the copy, the wait for the peer's part, the read of its rows, and the wait for its own copy to have left.
-/
module

public import proofs.«01_k».proof.Proof.Protocol

@[expose] public section

noncomputable section

namespace Cert.ArgmaxRun

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 17 → ℕ)

abbrev 𝒱₀ : Variants := Variants.none

/-- The send semaphore of the copy to the `r`-th peer. -/
abbrev out (r : Fin 7) : Fin 8 := r.succ
/-- No copy uses the first send semaphore. -/
theorem out_ne (r : Fin 7) : out r ≠ 0 := Fin.succ_ne_zero r

/-! ## The stages -/

/-- Device `c` owes `O` (whatever it has waited on so far). -/
def owing (c : Dev nD) (O : CellTallies nD τ sig Unit) : sProp 𝕄 := iprop(∃ W, owes (c : Thread nD τ) O W)

/-- For the signal to the peer: the barrier duty's token and the slot handed over. -/
def toSignal (c : Dev nD) (r : Fin 7) : sProp 𝕄 :=
  iprop(dutyTok ER (barCell (peer c r.val)) 0 c ∗ ∃ f, slotPts (F := F) c (peer c r.val) f)
/-- For the copy to the peer: its two duties' tokens, and the send cell's position. -/
def toCopy (c : Dev nD) (r : Fin 7) : sProp 𝕄 :=
  iprop(dutyTok ER (sendCell c (out r)) 0 0 ∗ dutyTok ER (recvCell (peer c r.val) c) 0 0 ∗ atPos ER (sendCell c (out r)) 0 ∅ 0)
/-- For the copy also: the share of the own part that it reads, and the peer's slot. -/
def cargo (c : Dev nD) (r : Fin 7) : sProp 𝕄 :=
  iprop(partPts m ρ c (out r) ∗ ∃ f, slotPts (F := F) (peer c r.val) c f)
/-- For the wait on the copy's having left. -/
def toSent (c : Dev nD) (r : Fin 7) : sProp 𝕄 :=
  iprop(cred (tallyAt (sendCell c (out r)) () N) ∗ atPos ER (sendCell c (out r)) 0 ∅ 0)
/-- For the wait on the peer's part. -/
def toReceive (c : Dev nD) (r : Fin 7) : sProp 𝕄 :=
  iprop(cred (tallyAt (recvCell c (peer c r.val)) () N) ∗ atPos ER (recvCell c (peer c r.val)) 0 ∅ 0)
/-- The peer's part received, its cell closed. -/
def received (c : Dev nD) (r : Fin 7) : sProp 𝕄 :=
  iprop(slotPts c (peer c r.val) (landed m ρ) ∗ semVal (recvCell c (peer c r.val)) 0)
/-- The copy's share back, its cell closed. -/
def sent (c : Dev nD) (r : Fin 7) : sProp 𝕄 :=
  iprop(partPts m ρ c (out r) ∗ semVal (sendCell c (out r)) 0)

/-! ## Amounts -/

/-- A copy into a slot counts `N`, -/
theorem slot_credit (off : Fin 3 → ℕ) (inb) : (slotAt off inb).view.dmaCredit = N := rfl
/-- and so does one out of the part. -/
theorem part_credit : (pM : Memref sig .tc .vmem S2x512 .f32).view.dmaCredit = N := rfl

/-! ## The effects -/

/-- The signal to the `r`-th peer. -/
theorem wp_step_signal {α : Type} {Q : α → sProp 𝕄} {k : PUnit → Prog (TpuEff nD τ sig (Elt F) Λ₀ .tc) α}
    (c n : Dev nD) (r : Fin 7) (hn : n = peer c r.val) (z : ℤ) (hz : z = ((1 : ℕ) : ℤ)) (O : CellTallies nD τ sig Unit)
    (O' : CellTallies nD τ sig Unit) (hO : O' = O + tallyAt (barCell (peer c r.val)) () 1) :
    iprop(records m ρ K ∗ owing c O' ∗ toSignal c r)
      ⊢ iprop((owing c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, Proc.tc) barS z) k) Q) := by
  subst hn hz hO
  unfold owing toSignal
  iintro ⟨#HR, ⟨%W, HO⟩, Htok, Hslot⟩ Hk
  ihave Hpay := (Entails.of_eq (payload_bar m ρ (peer c r.val) c).symm) $$ Hslot
  iapply (Rounds.wp_signal 𝒱₀ ER (xRd m ρ) (c : Thread nD τ) none (dst := (peer c r.val : Thread nD τ)) (κ := K (peer c r.val, 0)) (k' := 1)
      (d := c) (by rw [duties_bar]; exact Finset.mem_erase.mpr ⟨fun h => peer_ne c r h.symm, Finset.mem_univ _⟩) rfl () O rfl) $$ [HO Htok Hpay]
  · isplitr; · iapply (inv_at m ρ K (peer c r.val, 0) _ (kcell_bar _)); iexact HR
    isplitl [HO]; · iexact HO
    isplitl [Htok]; · iexact Htok
    isplitl [Hpay]; · iexact Hpay
    iapply (reached_at m ρ K (peer c r.val, 0) _ (kcell_bar _)); iexact HR
  iintro HO
  iapply Hk; iexists W; iexact HO

/-- The wait at the barrier: slot `c` of every peer, and the barrier cell closed. -/
theorem wp_step_barrier {α : Type} {Q : α → sProp 𝕄} {k : PUnit → Prog (TpuEff nD τ sig (Elt F) Λ₀ .tc) α}
    (c : Dev nD) (z : ℤ) (hz : z = ((7 : ℕ) : ℤ)) :
    iprop(records m ρ K ∗ levAts L lv ∗ owing c (owedCopies c 7) ∗ cred (tallyAt (barCell c) () 7) ∗ atPos ER (barCell c) 0 ∅ 0)
      ⊢ iprop(((owing c (owedCopies c 7) ∗ (bigSep Finset.univ fun r : Fin 7 => iprop(∃ f, slotPts (F := F) (peer c r.val) c f)) ∗ semVal (barCell c) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS z) k) Q) := by
  subst hz
  unfold owing
  iintro ⟨#HR, #Hlev, ⟨%W, HO⟩, Hc, Hat⟩ Hk
  iapply (Rounds.wp_wait_rest_token 𝒱₀ ER (xRd m ρ) (c : Thread nD τ) none (κ := K (c, 0))
      (wpE_semWait_eq 𝒱₀ (c : Thread nD τ) none Set.univ) (Set.mem_univ _) () (O := owedCopies c 7) (W := W) (R := 0) (m := 0) (T := ∅)
      (by rw [expect_bar])) $$ [Hc HO Hat]
  · isplitr; · iapply (inv_at m ρ K (c, 0) _ (kcell_bar _)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (xRd m ρ) (Set.mem_univ (K (c, 0))) (fun h => h) (R := 0 + 1) (duties_later m ρ (barCell c))) $$ [Hat] with Hz
  · isplitr; · iapply (inv_at m ρ K (c, 0) _ (kcell_bar _)); iexact HR
    iexact Hat
  iapply Hk
  isplitl [HO]; · iexists _; iexact HO
  isplitl [Hp] <;> iassumption

/-- The copy to the `r`-th peer. -/
theorem wp_step_copy {α : Type} {Q : α → sProp 𝕄} {k : PUnit → Prog (TpuEff nD τ sig (Elt F) Λ₀ .tc) α}
    (c n : Dev nD) (r : Fin 7) (hn : n = peer c r.val) (off : Fin 3 → ℕ) (hoff : off = ![c.val, 0, 0]) (inb)
    (qs qr : DmaSem sig) (hqs : qs = sndS (out r)) (hqr : qr = rcvS c) (O O' : CellTallies nD τ sig Unit)
    (hO : O' = O + tallyAt (recvCell (peer c r.val) c) () N)
    {hsc : (slotAt off inb : Memref sig (Dev.tc n : Thread nD τ).2.kind .vmem S2x512 .f32).view.ref.isScScratch = false}
    {hsrc : (pM : Memref sig .tc .vmem S2x512 .f32).view.WordExact} {hdst : (slotAt off inb).view.WordExact}
    {hsem : DmaTarget.Typed .vmem (.dma qr) (.remote (Dev.tc n : Thread nD τ) (slotAt off inb) (.dma qs) hsc)} :
    iprop(records m ρ K ∗ owing c O' ∗ toCopy c r ∗ cargo m ρ c r)
      ⊢ iprop(((owing c O ∗ toSent c r)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma pM (.remote (Dev.tc n : Thread nD τ) (slotAt off inb) (.dma qs) hsc) (.dma qr) hsrc hdst hsem) k) Q) := by
  subst hn hoff hqs hqr hO
  unfold owing toCopy cargo toSent partPts slotPts
  iintro ⟨#HR, ⟨%W, HO⟩, ⟨HtS, HtV, Hat⟩, Hp, ⟨%fd, Hslot⟩⟩ Hk
  iapply (Rounds.wp_send_pointsTo 𝒱₀ ER (xRd m ρ) (c : Thread nD τ) none (κ₁ := K (c, kS (out r))) (κ₂ := K (peer c r.val, kR c))
    (r₁ := 0) (r₂ := 0) (d₁ := 0) (d₂ := 0) (fd := fd)
    (by rw [duties_send m ρ c _ (out_ne r)]; exact Finset.mem_singleton_self _)
    (by rw [duties_recv m ρ _ _ (fun h => peer_ne c r h.symm)]; exact Finset.mem_singleton_self _)
    () () N rfl rfl rfl O rfl (W := W)
    (by rw [payload_send]; exact BI.Entails.refl _)
    (by rw [payload_recv]; unfold slotPts
        exact Entails.of_eq (pointsTo_congr (landing (part m ρ) c fd)))) $$ [HO HtS HtV Hp Hslot]
  · isplitr; · iapply (inv_at m ρ K (c, kS (out r)) _ (kcell_send _ _)); iexact HR
    isplitr; · iapply (inv_at m ρ K (peer c r.val, kR c) _ (kcell_recv _ _)); iexact HR
    isplitl [Hp]; · iexact Hp
    isplitl [Hslot]; · iexact Hslot
    isplitl [HO]; · iexact HO
    isplitl [HtS]; · iexact HtS
    isplitr; · iapply (reached_at m ρ K (c, kS (out r)) _ (kcell_send _ _)); iexact HR
    isplitl [HtV]; · iexact HtV
    iapply (reached_at m ρ K (peer c r.val, kR c) _ (kcell_recv _ _)); iexact HR
  iintro ⟨Hc, HO⟩
  iapply Hk
  isplitl [HO]; · iexists W; iexact HO
  isplitl [Hc] <;> iassumption

/-- The wait for the `r`-th peer's part, and its cell closed. -/
theorem wp_step_receive {α : Type} {Q : α → sProp 𝕄} {k : PUnit → Prog (TpuEff nD τ sig (Elt F) Λ₀ .tc) α}
    (c : Dev nD) (r : Fin 7) (off : Fin 3 → ℕ) (inb)
    (q : DmaSem sig) (hq : q = rcvS (peer c r.val))
    {hsrc : (pM : Memref sig .tc .vmem S2x512 .f32).view.WordExact} {hdst : (slotAt off inb).view.WordExact} :
    iprop(records m ρ K ∗ owing c 0 ∗ toReceive c r)
      ⊢ iprop(((owing c 0 ∗ received m ρ c r)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q pM (slotAt off inb) hsrc hdst) k) Q) := by
  subst hq
  unfold owing toReceive received
  iintro ⟨#HR, ⟨%W, HO⟩, Hc, Hat⟩ Hk
  iapply (Rounds.wp_wait_rest_token 𝒱₀ ER (xRd m ρ) (c : Thread nD τ) none (κ := K (c, kR (peer c r.val)))
      (wpE_waitDma2_eq 𝒱₀ (c : Thread nD τ) none Set.univ) (Set.mem_univ _) () (O := 0) (W := W) (R := 0) (m := 0) (T := ∅)
      (by rw [Nat.zero_add, expect_recv m ρ c _ (peer_ne c r)])) $$ [Hc HO Hat]
  · isplitr; · iapply (inv_at m ρ K (c, kR (peer c r.val)) _ (kcell_recv _ _)); iexact HR
    isplitl [Hc]; · iexact Hc
    isplitl [HO]; · iexact HO
    isplitr; · rw [MayWait_zero]; iempintro
    iexact Hat
  iintro ⟨HO, Hat, -, Hpay⟩
  ihave Hp := (Entails.of_eq (rest_recv m ρ c _ (peer_ne c r))) $$ Hpay
  imod (Rounds.cell_close ER (xRd m ρ) (Set.mem_univ (K (c, kR (peer c r.val)))) (fun h => h) (R := 0 + 1) (duties_later m ρ (recvCell c (peer c r.val)))) $$ [Hat] with Hz
  · isplitr; · iapply (inv_at m ρ K (c, kR (peer c r.val)) _ (kcell_recv _ _)); iexact HR
    iexact Hat
  iapply Hk
  isplitl [HO]; · iexists _; iexact HO
  isplitl [Hp] <;> iassumption

/-- The wait for the copy to the `r`-th peer to have left, and its cell closed. -/
theorem wp_step_sent {α : Type} {Q : α → sProp 𝕄} {k : PUnit → Prog (TpuEff nD τ sig (Elt F) Λ₀ .tc) α}
    (c : Dev nD) (r : Fin 7) (off : Fin 3 → ℕ) (inb)
    (q : DmaSem sig) (hq : q = sndS (out r))
    {hdst : (pM : Memref sig .tc .vmem S2x512 .f32).view.WordExact} {hsrc : (slotAt off inb).view.WordExact} :
    iprop(records m ρ K ∗ owing c 0 ∗ toSent c r)
      ⊢ iprop(((owing c 0 ∗ sent m ρ c r)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q (slotAt off inb) pM hsrc hdst) k) Q) := by
  subst hq
  unfold owing toSent sent
  iintro ⟨#HR, ⟨%W, HO⟩, Hc, Hat⟩ Hk
  iapply (Rounds.wp_wait_rest_token 𝒱₀ ER (xRd m ρ) (c : Thread nD τ) none (κ := K (c, kS (out r)))
      (wpE_waitDma2_eq 𝒱₀ (c : Thread nD τ) none Set.univ) (Set.mem_univ _) () (O := 0) (W := W) (R := 0) (m := 0) (T := ∅)
      (by rw [Nat.zero_add, expect_send m ρ c _ (out_ne r)])) $$ [Hc HO Hat]
  · isplitr; · iapply (inv_at m ρ K (c, kS (out r)) _ (kcell_send _ _)); iexact HR
    isplitl [Hc]; · iexact Hc
    isplitl [HO]; · iexact HO
    isplitr; · rw [MayWait_zero]; iempintro
    iexact Hat
  iintro ⟨HO, Hat, -, Hpay⟩
  ihave Hp := (Entails.of_eq (rest_send m ρ c _ (out_ne r))) $$ Hpay
  imod (Rounds.cell_close ER (xRd m ρ) (Set.mem_univ (K (c, kS (out r)))) (fun h => h) (R := 0 + 1) (duties_later m ρ (sendCell c (out r)))) $$ [Hat] with Hz
  · isplitr; · iapply (inv_at m ρ K (c, kS (out r)) _ (kcell_send _ _)); iexact HR
    iexact Hat
  iapply Hk
  isplitl [HO]; · iexists _; iexact HO
  isplitl [Hp] <;> iassumption

/-- The read of row `j` of the `r`-th peer's part. -/
theorem wp_step_row {α : Type} {Q : α → sProp 𝕄} {k : Vec F S1x1x512 .f32 → Prog (TpuEff nD τ sig (Elt F) Λ₀ .tc) α}
    (c : Dev nD) (r : Fin 7) (j : Fin 2) (off : Fin 3 → ℕ) (hoff : off = ![(peer c r.val).val, j.val, 0]) (inb)
    {hl : cM.view.LoadsAt (Rect.unit (s := S8x2x512) off S1x1x512.size inb).toLoadRect} :
    received m ρ c r
      ⊢ iprop((received m ρ c r
            -∗ wp frame (wpE (defs₀ (F := F)) 𝒱₀ (c : Thread nD τ) none) Set.univ (k (rowOf (part m ρ (peer c r.val)) j)) Q)
          -∗ wp frame (wpE (defs₀ (F := F)) 𝒱₀ (c : Thread nD τ) none) Set.univ
              (.op (.load cM (Rect.unit (s := S8x2x512) off S1x1x512.size inb).toLoadRect hl) k) Q) := by
  unfold received slotPts
  iintro ⟨Hs, Hz⟩ Hk
  iapply (wp_load 𝒱₀ (c : Thread nD τ) none Set.univ (m := cM) (row_subset (peer c r.val) j off hoff inb)) $$ Hs
  iintro Hs
  rw [show (cM : Memref sig .tc .vmem S8x2x512 .f32).view.readAt (Elt F) _ (landed m ρ) = _ from read_row (part m ρ) (peer c r.val) j off hoff inb]
  iapply Hk
  isplitl [Hs] <;> iassumption

end Cert.ArgmaxRun

end
-- ==== Proof.Fold.lean ====
/-
# The running best over the devices

What the kernel makes of its own part and the seven it receives: a best value and its index per column, replaced by a
peer's when that one is larger, or equal with a smaller index.
-/
module

public import proofs.«01_k».proof.Proof.Protocol

@[expose] public section

noncomputable section

namespace Cert.ArgmaxRun

open Cert.KernelIdeal Cert.KernelIdeal.Gen
open Idealize.ShloMosaic Idealize.ShloMosaic.ValueIdx

variable {F : FTy → Type} [FloatOps F]

/-- Row `k` of a part as the kernel compares it. -/
def asRow (q : Vec F S2x512 .f32) (k : Fin 2) : FVec F S1x512 .f32 := shapeCast S1x512 (rowOf q k) shapeCasts_S1x1x512_S1x512

/-- Where part `q` replaces the running best `b`. -/
def beats (q : Vec F S2x512 .f32) (b : FVec F S1x512 .f32 × FVec F S1x512 .f32) : IVec S1x512 1 :=
  ori (cmpf .ogt (asRow q 0) b.1) (andi (cmpf .oeq (asRow q 0) b.1) (cmpf .olt (asRow q 1) b.2))
/-- The running best once part `q` is taken in. -/
def meet (b : FVec F S1x512 .f32 × FVec F S1x512 .f32) (q : Vec F S2x512 .f32) : FVec F S1x512 .f32 × FVec F S1x512 .f32 :=
  (select (beats q b) (asRow q 0) b.1, select (beats q b) (asRow q 1) b.2)

variable (m : (ℓ : Loc nD τ sig) → Buf (Elt F) ℓ) (ρ : Dev nD → PrngReg)

/-- Device `c`'s running best after its first `n` peers. -/
def bestAt (c : Dev nD) : ℕ → FVec F S1x512 .f32 × FVec F S1x512 .f32
  | 0 => (k0_pay2 (xstg m ρ c), k0_pay3 (devWord c) (xstg m ρ c))
  | n + 1 => meet (bestAt c n) (part m ρ (peer c n))

/-- What device `c` leaves in its staged result. -/
def outAt (c : Dev nD) : (cc0_stg1_0 : Ref sig .tc).ty.Contents (Elt F) := stack2 (bestAt m ρ c 7).1 (bestAt m ρ c 7).2

/-! ## The same, as the program's stages spell it -/

/-- The device's own values start the running best, -/
theorem stage0_val (c : Dev nD) : k0_pay2 (xstg m ρ c) = (bestAt m ρ c 0).1 := by rw [bestAt]
/-- and so do its own row numbers. -/
theorem stage0_idx (c : Dev nD) : k0_pay3 (devWord c) (xstg m ρ c) = (bestAt m ρ c 0).2 := by rw [bestAt]

section Spelled
variable (b : FVec F S1x512 .f32 × FVec F S1x512 .f32) (p q : Vec F S2x512 .f32)

/-- The values after one more peer, -/
theorem stage1_val : k0_pay9 b.1 b.2 (rowOf p 0) (rowOf p 1) = (meet b p).1 := rfl
/-- and the row numbers. -/
theorem stage1_idx : k0_pay10 b.1 b.2 (rowOf p 0) (rowOf p 1) = (meet b p).2 := rfl
/-- The next peer's values, as loaded, -/
theorem stage1_row0 : k0_pay11 (rowOf q 0) = asRow q 0 := rfl
/-- and its row numbers. -/
theorem stage1_row1 : k0_pay12 (rowOf q 1) = asRow q 1 := rfl
/-- Where the next peer's values are greater than the running best's, -/
theorem stage1_gt : k0_pay13 b.1 b.2 (rowOf p 0) (rowOf p 1) (rowOf q 0) = cmpf .ogt (asRow q 0) (meet b p).1 := rfl
/-- and where they are equal. -/
theorem stage1_eq : k0_pay14 b.1 b.2 (rowOf p 0) (rowOf p 1) (rowOf q 0) = cmpf .oeq (asRow q 0) (meet b p).1 := rfl
/-- With both comparisons made already: the values after two more peers, -/
theorem stage2_val : k0_pay21 b.1 b.2 (asRow p 0) (asRow p 1) (cmpf .ogt (asRow p 0) b.1) (cmpf .oeq (asRow p 0) b.1) (rowOf q 0) (rowOf q 1)
    = (meet (meet b p) q).1 := rfl
/-- the row numbers, -/
theorem stage2_idx : k0_pay22 b.1 b.2 (asRow p 0) (asRow p 1) (cmpf .ogt (asRow p 0) b.1) (cmpf .oeq (asRow p 0) b.1) (rowOf q 0) (rowOf q 1)
    = (meet (meet b p) q).2 := rfl
/-- and the values of the peer after them. -/
theorem stage2_row0 : k0_pay23 (rowOf q 0) = asRow q 0 := rfl
/-- With the first peer's values loaded already: the values after two more peers, -/
theorem stage3_val : k0_pay31 b.1 b.2 (asRow p 0) (rowOf p 1) (rowOf q 0) (rowOf q 1) = (meet (meet b p) q).1 := rfl
/-- and the row numbers. -/
theorem stage3_idx : k0_pay32 b.1 b.2 (asRow p 0) (rowOf p 1) (rowOf q 0) (rowOf q 1) = (meet (meet b p) q).2 := rfl
/-- With nothing loaded yet: the values after two more peers, -/
theorem stage4_val : k0_pay41 b.1 b.2 (rowOf p 0) (rowOf p 1) (rowOf q 0) (rowOf q 1) = (meet (meet b p) q).1 := rfl
/-- and the row numbers. -/
theorem stage4_idx : k0_pay42 b.1 b.2 (rowOf p 0) (rowOf p 1) (rowOf q 0) (rowOf q 1) = (meet (meet b p) q).2 := rfl
end Spelled

end Cert.ArgmaxRun

end
-- ==== Proof.Parts.lean ====
/-
# The kernel's body, part by part

Each theorem runs one stretch of the body: the signals, the own part and the barrier, the seven copies, the seven
receptions with the running best, the result's two rows, and the seven copies' departures.
-/
module

public import proofs.«01_k».proof.Proof.Steps
public import proofs.«01_k».proof.Proof.Fold

@[expose] public section

noncomputable section

namespace Cert.ArgmaxRun

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 17 → ℕ)

/-! ## Buffers and semaphores -/

/-- The staged block of `x`. -/
def xPts (c : Dev nD) : sProp 𝕄 := ((c : Thread nD τ).loc cc0_stg0_0) ↦{fullShare} xstg m ρ c
/-- The whole own-part buffer at `f`, -/
def pAll (c : Dev nD) (f : Vec F S2x512 .f32) : sProp 𝕄 := ((c : Thread nD τ).loc cc0_scratch0) ↦{fullShare} f
/-- and the staged result. -/
def oPts (c : Dev nD) (f : Vec F S2x512 .f32) : sProp 𝕄 := ((c : Thread nD τ).loc cc0_stg1_0) ↦{fullShare} f

/-- Anything held whole is held by eight shares. -/
theorem eight_shares (ℓ : Loc nD τ sig) (I : Finset (Idx ℓ)) (f : Buf (Elt F) ℓ) :
    (ℓ ↦[I]{fullShare} f : sProp 𝕄) = bigSep Finset.univ fun j : Fin 8 => ℓ ↦[I]{ShareLeaves.leaf 3 fullShare j} f :=
  ShareLeaves.pointsTo_leaves I f 3 fullShare
/-- The whole part is its eight shares. -/
theorem pAll_shares (c : Dev nD) : pAll c (part m ρ c) = bigSep Finset.univ fun j : Fin 8 => partPts m ρ c j := by
  unfold pAll partPts
  generalize part m ρ c = f
  rw [show (pM : Memref sig .tc .vmem S2x512 .f32).view.set = Finset.univ from View.set_whole _]
  exact eight_shares ((c : Thread nD τ).loc cc0_scratch0) Finset.univ f

/-- A family over the eight send cells: the first, then the seven that are used. -/
theorem bigSep_outs (Φ : Fin 8 → sProp 𝕄) : bigSep Finset.univ Φ = iprop(Φ 0 ∗ bigSep Finset.univ fun r : Fin 7 => Φ (out r)) := by
  rw [bigSep_univ_at Φ (0 : Fin 8), show (Finset.univ.erase 0 : Finset (Fin 8)) = Finset.univ.image out from by decide,
    bigSep_image_of_injOn (fun r _ r' _ h => Fin.succ_injective _ h)]
/-- A family over the devices: device `c`, then its seven peers. -/
theorem bigSep_peers (c : Dev nD) (Φ : Fin 8 → sProp 𝕄) :
    bigSep Finset.univ Φ = iprop(Φ c ∗ bigSep Finset.univ fun r : Fin 7 => Φ (peer c r.val)) := by
  rw [bigSep_univ_at Φ (c : Fin 8), erase_eq_peers, bigSep_image_of_injOn (fun r _ r' _ h => peer_inj c r r' h)]
/-- Seven, listed. -/
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A device number the program computes is a peer's. -/
theorem to_peer (c : Dev nD) (r : Fin 7) (n : ℕ) (h : n < nD) (e : n = (c.val + (r.val + 1)) % 8) : (⟨n, h⟩ : Dev nD) = peer c r.val := Fin.ext e

/-- Each of eight offsets lies in an array of eight semaphores. -/
theorem one_inb (s : Fin 8) : ∀ a, (![s.val] : Fin 1 → ℕ) a + S1.size a ≤ S8.size a := by revert s; decide
/-- The send semaphore at each offset is the one of that number, -/
theorem snd_each : ∀ s : Fin 8,
    ((cc0_scratch2.slice (Rect.unit (s := S8) ![s.val] S1.size (one_inb s))).squeeze S_ squeezes_S1_S_).sem = sndS s := by
  decide +kernel
/-- and so is the receive semaphore. -/
theorem rcv_each : ∀ s : Fin 8,
    ((cc0_scratch3.slice (Rect.unit (s := S8) ![s.val] S1.size (one_inb s))).squeeze S_ squeezes_S1_S_).sem = rcvS s := by
  decide +kernel
/-- The send semaphore at offset `s`, -/
theorem snd_at (s : Fin 8) (off : Fin 1 → ℕ) (inb) (hoff : off = ![s.val]) :
    ((cc0_scratch2.slice (Rect.unit (s := S8) off S1.size inb)).squeeze S_ squeezes_S1_S_).sem = sndS s := by
  subst hoff; exact snd_each s
/-- and the receive semaphore at it. -/
theorem rcv_at (s : Fin 8) (off : Fin 1 → ℕ) (inb) (hoff : off = ![s.val]) :
    ((cc0_scratch3.slice (Rect.unit (s := S8) off S1.size inb)).squeeze S_ squeezes_S1_S_).sem = rcvS s := by
  subst hoff; exact rcv_each s

section Run
variable {α : Type} (c : Dev nD)

abbrev WP (c : Dev nD) {β : Type} (p : Prog (TpuEff nD τ sig (Elt F) Λ₀ .tc) β) (Q : β → sProp 𝕄) : sProp 𝕄 :=
  wp frame (wpE (defs₀ (F := F)) 𝒱₀ (c : Thread nD τ) none) Set.univ p Q

set_option maxHeartbeats 1000000 in
/-- The first five signals. -/
theorem run_part1 {Q : (Σ' (d0 : Dev nD) (v2 : BitVec 32) (v3 : Sems sig S_) (v24 : BitVec 32), BitVec 32) → sProp 𝕄} :
    iprop(records m ρ K ∗ owing c (owedAll c 7) ∗ toSignal c 0 ∗ toSignal c 1 ∗ toSignal c 2 ∗ toSignal c 3 ∗ toSignal c 4)
      ⊢ iprop(((owing c (owedAll c 2)) -∗ Q ⟨c, devWord c, SemArray.scalar (sig.barrier 0 rfl), Scalar.addi (devWord c) 6#32, 8#32⟩)
          -∗ WP c (k0_part1 xM (Memref.isWhole_whole _) oM (Memref.isWhole_whole _) pM (Memref.isWhole_whole _) cM (Memref.isWhole_whole _) cc0_scratch2 cc0_scratch3) Q) := by
  unfold WP
  rw [k0_part1_eq_skeleton]; unfold k0_part1_skel
  simp only [semSignalWord, semWaitWord, Prog.lift, Prog.bind_op, Prog.bind_ret, Prog.pure_eq_ret, wp_deviceId]
  iintro ⟨#HR, HO, H0, H1, H2, H3, H4⟩ Hk
  iapply (wp_step_signal m ρ K c _ 0 (to_peer c 0 _ _ (k0_dev1_eq c)) _ rfl (owedAll c 6) (owedAll c 7) rfl) $$ [HO H0]
  · isplitr; · iexact HR
    isplitl [HO] <;> iassumption
  iintro HO
  iapply (wp_step_signal m ρ K c _ 1 (to_peer c 1 _ _ (k0_dev2_eq c)) _ rfl (owedAll c 5) (owedAll c 6) rfl) $$ [HO H1]
  · isplitr; · iexact HR
    isplitl [HO] <;> iassumption
  iintro HO
  iapply (wp_step_signal m ρ K c _ 2 (to_peer c 2 _ _ (k0_dev3_eq c)) _ rfl (owedAll c 4) (owedAll c 5) rfl) $$ [HO H2]
  · isplitr; · iexact HR
    isplitl [HO] <;> iassumption
  iintro HO
  iapply (wp_step_signal m ρ K c _ 3 (to_peer c 3 _ _ (k0_dev4_eq c)) _ rfl (owedAll c 3) (owedAll c 4) rfl) $$ [HO H3]
  · isplitr; · iexact HR
    isplitl [HO] <;> iassumption
  iintro HO
  iapply (wp_step_signal m ρ K c _ 4 (to_peer c 4 _ _ (k0_dev5_eq c)) _ rfl (owedAll c 2) (owedAll c 3) rfl) $$ [HO H4]
  · isplitr; · iexact HR
    isplitl [HO] <;> iassumption
  iintro HO
  rw [wp_ret]; imodintro
  iapply Hk; iexact HO

set_option maxHeartbeats 1000000 in
/-- The last two signals, the own part, and the barrier. -/
theorem run_part2 (v24 v25 : BitVec 32) {Q : (Σ' (v35 : FVec F S1x512 .f32) (v46 : FVec F S1x512 .f32), BitVec 32) → sProp 𝕄} :
    iprop(records m ρ K ∗ levAts L lv ∗ owing c (owedAll c 2) ∗ toSignal c 5 ∗ toSignal c 6 ∗ xPts m ρ c ∗ (∃ f, pAll c f) ∗ cred (tallyAt (barCell c) () 7) ∗ atPos ER (barCell c) 0 ∅ 0)
      ⊢ iprop(((owing c (owedCopies c 7) ∗ xPts m ρ c ∗ pAll c (part m ρ c) ∗ (bigSep Finset.univ fun r : Fin 7 => iprop(∃ f, slotPts (F := F) (peer c r.val) c f)) ∗ semVal (barCell c) 0) -∗ Q ⟨(bestAt m ρ c 0).1, (bestAt m ρ c 0).2, Scalar.muli (Scalar.remsi (Scalar.addi (devWord c) 1#32) 8#32) 1#32⟩)
          -∗ WP c (k0_part2 xM (Memref.isWhole_whole _) oM (Memref.isWhole_whole _) pM (Memref.isWhole_whole _) cM (Memref.isWhole_whole _) cc0_scratch2 cc0_scratch3 c (devWord c) (SemArray.scalar (sig.barrier 0 rfl)) v24 v25) Q) := by
  unfold WP
  rw [k0_part2_eq_skeleton]; unfold k0_part2_skel
  simp only [semSignalWord, semWaitWord, Prog.lift, Prog.bind_op, Prog.bind_ret, Prog.pure_eq_ret, wp_deviceId]
  iintro ⟨#HR, #Hlev, HO, H5, H6, Hx, ⟨%f, Hp⟩, Hc, Hat⟩ Hk
  iapply (wp_step_signal m ρ K c _ 5 (to_peer c 5 _ _ (k0_dev6_eq c)) _ rfl (owedAll c 1) (owedAll c 2) rfl) $$ [HO H5]
  · isplitr; · iexact HR
    isplitl [HO] <;> iassumption
  iintro HO
  iapply (wp_step_signal m ρ K c _ 6 (to_peer c 6 _ _ (k0_dev7_eq c)) _ rfl (owedCopies c 7) (owedAll c 1) rfl) $$ [HO H6]
  · isplitr; · iexact HR
    isplitl [HO] <;> iassumption
  iintro HO
  unfold xPts pAll
  iapply (wp_load 𝒱₀ (c : Thread nD τ) none Set.univ (m := xM) (Finset.subset_univ _)) $$ Hx; iintro Hx
  rw [read_x]
  iapply (wp_load 𝒱₀ (c : Thread nD τ) none Set.univ (m := pM) (Finset.subset_univ _)) $$ Hp; iintro Hp
  iapply (wp_store 𝒱₀ (c : Thread nD τ) none Set.univ (m := pM) (r := row0) (Mk := Finset.univ) (Finset.subset_univ _)) $$ Hp; iintro Hp
  iapply (wp_load 𝒱₀ (c : Thread nD τ) none Set.univ (m := pM) (Finset.subset_univ _)) $$ Hp; iintro Hp
  iapply (wp_store 𝒱₀ (c : Thread nD τ) none Set.univ (m := pM) (r := row1) (Mk := Finset.univ) (Finset.subset_univ _)) $$ Hp; iintro Hp
  rw [write_part]
  iapply (wp_step_barrier m ρ K c _ rfl) $$ [HO Hc Hat]
  · isplitr; · iexact HR
    isplitr; · iexact Hlev
    isplitl [HO]; · iexact HO
    isplitl [Hc] <;> iassumption
  iintro ⟨HO, Hs, Hz⟩
  rw [wp_ret, stage0_val, stage0_idx]; imodintro
  iapply Hk
  isplitl [HO]; · iexact HO
  isplitl [Hx]; · iexact Hx
  isplitl [Hp]; · iexact Hp
  isplitl [Hs] <;> iassumption

set_option maxHeartbeats 1000000 in
/-- Copies 0 to 2. -/
theorem run_part3 (v2 v55 : BitVec 32) {Q : PUnit → sProp 𝕄} :
    iprop(records m ρ K ∗ owing c (owedCopies c 7) ∗ toCopy c 0 ∗ cargo m ρ c 0 ∗ toCopy c 1 ∗ cargo m ρ c 1 ∗ toCopy c 2 ∗ cargo m ρ c 2)
      ⊢ iprop(((owing c (owedCopies c 4) ∗ toSent c 0 ∗ toSent c 1 ∗ toSent c 2) -∗ Q ⟨⟩)
          -∗ WP c (k0_part3 xM (Memref.isWhole_whole _) oM (Memref.isWhole_whole _) pM (Memref.isWhole_whole _) cM (Memref.isWhole_whole _) cc0_scratch2 cc0_scratch3 c v2 v55) Q) := by
  unfold WP
  rw [k0_part3_eq_skeleton]; unfold k0_part3_skel
  simp only [semSignalWord, semWaitWord, Prog.lift, Prog.bind_op, Prog.bind_ret, Prog.pure_eq_ret, wp_deviceId]
  iintro ⟨#HR, HO, H0, G0, H1, G1, H2, G2⟩ Hk
  iapply (wp_step_copy m ρ K c _ 0 (to_peer c 0 _ _ (k0_dev8_eq c)) _ (k0_off2_eq c) _ _ _ (snd_at (out 0) _ _ rfl) (rcv_at c _ _ (k0_off1_eq c)) (owedCopies c 6) (owedCopies c 7) rfl) $$ [HO H0 G0]
  · isplitr; · iexact HR
    isplitl [HO]; · iexact HO
    isplitl [H0] <;> iassumption
  iintro ⟨HO, H0⟩
  iapply (wp_step_copy m ρ K c _ 1 (to_peer c 1 _ _ (k0_dev9_eq c)) _ (k0_off2_eq c) _ _ _ (snd_at (out 1) _ _ rfl) (rcv_at c _ _ (k0_off1_eq c)) (owedCopies c 5) (owedCopies c 6) rfl) $$ [HO H1 G1]
  · isplitr; · iexact HR
    isplitl [HO]; · iexact HO
    isplitl [H1] <;> iassumption
  iintro ⟨HO, H1⟩
  iapply (wp_step_copy m ρ K c _ 2 (to_peer c 2 _ _ (k0_dev10_eq c)) _ (k0_off2_eq c) _ _ _ (snd_at (out 2) _ _ rfl) (rcv_at c _ _ (k0_off1_eq c)) (owedCopies c 4) (owedCopies c 5) rfl) $$ [HO H2 G2]
  · isplitr; · iexact HR
    isplitl [HO]; · iexact HO
    isplitl [H2] <;> iassumption
  iintro ⟨HO, H2⟩
  rw [wp_ret]; imodintro
  iapply Hk
  isplitl [HO]; · iexact HO
  isplitl [H0]; · iexact H0
  isplitl [H1] <;> iassumption

set_option maxHeartbeats 1000000 in
/-- Copies 3 to 6. -/
theorem run_part4 (v2 : BitVec 32) {Q : (BitVec 32) → sProp 𝕄} :
    iprop(records m ρ K ∗ owing c (owedCopies c 4) ∗ toCopy c 3 ∗ cargo m ρ c 3 ∗ toCopy c 4 ∗ cargo m ρ c 4 ∗ toCopy c 5 ∗ cargo m ρ c 5 ∗ toCopy c 6 ∗ cargo m ρ c 6)
      ⊢ iprop(((owing c 0 ∗ toSent c 3 ∗ toSent c 4 ∗ toSent c 5 ∗ toSent c 6) -∗ Q 1#32)
          -∗ WP c (k0_part4 xM (Memref.isWhole_whole _) oM (Memref.isWhole_whole _) pM (Memref.isWhole_whole _) cM (Memref.isWhole_whole _) cc0_scratch2 cc0_scratch3 c v2) Q) := by
  unfold WP
  rw [k0_part4_eq_skeleton]; unfold k0_part4_skel
  simp only [semSignalWord, semWaitWord, Prog.lift, Prog.bind_op, Prog.bind_ret, Prog.pure_eq_ret, wp_deviceId]
  iintro ⟨#HR, HO, H3, G3, H4, G4, H5, G5, H6, G6⟩ Hk
  iapply (wp_step_copy m ρ K c _ 3 (to_peer c 3 _ _ (k0_dev11_eq c)) _ (k0_off2_eq c) _ _ _ (snd_at (out 3) _ _ rfl) (rcv_at c _ _ (k0_off1_eq c)) (owedCopies c 3) (owedCopies c 4) rfl) $$ [HO H3 G3]
  · isplitr; · iexact HR
    isplitl [HO]; · iexact HO
    isplitl [H3] <;> iassumption
  iintro ⟨HO, H3⟩
  iapply (wp_step_copy m ρ K c _ 4 (to_peer c 4 _ _ (k0_dev12_eq c)) _ (k0_off2_eq c) _ _ _ (snd_at (out 4) _ _ rfl) (rcv_at c _ _ (k0_off1_eq c)) (owedCopies c 2) (owedCopies c 3) rfl) $$ [HO H4 G4]
  · isplitr; · iexact HR
    isplitl [HO]; · iexact HO
    isplitl [H4] <;> iassumption
  iintro ⟨HO, H4⟩
  iapply (wp_step_copy m ρ K c _ 5 (to_peer c 5 _ _ (k0_dev13_eq c)) _ (k0_off2_eq c) _ _ _ (snd_at (out 5) _ _ rfl) (rcv_at c _ _ (k0_off1_eq c)) (owedCopies c 1) (owedCopies c 2) rfl) $$ [HO H5 G5]
  · isplitr; · iexact HR
    isplitl [HO]; · iexact HO
    isplitl [H5] <;> iassumption
  iintro ⟨HO, H5⟩
  iapply (wp_step_copy m ρ K c _ 6 (to_peer c 6 _ _ (k0_dev14_eq c)) _ (k0_off2_eq c) _ _ _ (snd_at (out 6) _ _ rfl) (rcv_at c _ _ (k0_off1_eq c)) 0 (owedCopies c 1) rfl) $$ [HO H6 G6]
  · isplitr; · iexact HR
    isplitl [HO]; · iexact HO
    isplitl [H6] <;> iassumption
  iintro ⟨HO, H6⟩
  rw [wp_ret]; imodintro
  iapply Hk
  isplitl [HO]; · iexact HO
  isplitl [H3]; · iexact H3
  isplitl [H4]; · iexact H4
  isplitl [H5] <;> iassumption

set_option maxHeartbeats 1000000 in
/-- Peers 0 and 1 received; the first taken in, the second read. -/
theorem run_part5 (v2 w : BitVec 32) {Q : (Σ' (v142 : FVec F S1x512 .f32) (v143 : FVec F S1x512 .f32) (v154 : FVec F S1x512 .f32) (v157 : FVec F S1x512 .f32) (v158 : IVec S1x512 1), IVec S1x512 1) → sProp 𝕄} :
    iprop(records m ρ K ∗ owing c 0 ∗ toReceive c 0 ∗ toReceive c 1)
      ⊢ iprop(((owing c 0 ∗ received m ρ c 0 ∗ received m ρ c 1) -∗ Q ⟨(bestAt m ρ c 1).1, (bestAt m ρ c 1).2, asRow (part m ρ (peer c (1 : Fin 7).val)) 0, asRow (part m ρ (peer c (1 : Fin 7).val)) 1, cmpf .ogt (asRow (part m ρ (peer c (1 : Fin 7).val)) 0) (bestAt m ρ c 1).1, cmpf .oeq (asRow (part m ρ (peer c (1 : Fin 7).val)) 0) (bestAt m ρ c 1).1⟩)
          -∗ WP c (k0_part5 xM (Memref.isWhole_whole _) oM (Memref.isWhole_whole _) pM (Memref.isWhole_whole _) cM (Memref.isWhole_whole _) cc0_scratch2 cc0_scratch3 c v2 (bestAt m ρ c 0).1 (bestAt m ρ c 0).2 w) Q) := by
  unfold WP
  rw [k0_part5_eq_skeleton]; unfold k0_part5_skel
  simp only [semSignalWord, semWaitWord, Prog.lift, Prog.bind_op, Prog.bind_ret, Prog.pure_eq_ret, wp_deviceId]
  iintro ⟨#HR, HO, H0, H1⟩ Hk
  iapply (wp_step_receive m ρ K c 0 _ _ _ (rcv_at (peer c 0) _ _ (k0_off3_eq c 0))) $$ [HO H0]
  · isplitr; · iexact HR
    isplitl [HO] <;> iassumption
  iintro ⟨HO, H0⟩
  iapply (wp_step_row m ρ c 0 0 _ (k0_off5_eq c 0) _) $$ H0; iintro H0
  iapply (wp_step_row m ρ c 0 1 _ (k0_off6_eq c 0) _) $$ H0; iintro H0
  iapply (wp_step_receive m ρ K c 1 _ _ _ (rcv_at (peer c 1) _ _ (k0_off3_eq c 1))) $$ [HO H1]
  · isplitr; · iexact HR
    isplitl [HO] <;> iassumption
  iintro ⟨HO, H1⟩
  iapply (wp_step_row m ρ c 1 0 _ (k0_off5_eq c 1) _) $$ H1; iintro H1
  iapply (wp_step_row m ρ c 1 1 _ (k0_off6_eq c 1) _) $$ H1; iintro H1
  rw [stage1_val, stage1_idx, stage1_row0, stage1_row1, stage1_gt, stage1_eq]
  rw [show meet (bestAt m ρ c 0) (part m ρ (peer c (0 : Fin 7).val)) = bestAt m ρ c 1 from rfl]
  rw [wp_ret]; imodintro
  iapply Hk
  isplitl [HO]; · iexact HO
  isplitl [H0] <;> iassumption

set_option maxHeartbeats 1000000 in
/-- Peers 2 and 3 received; those up to the third taken in. -/
theorem run_part6 (v2 : BitVec 32) {Q : (Σ' (v184 : FVec F S1x512 .f32) (v185 : FVec F S1x512 .f32), FVec F S1x512 .f32) → sProp 𝕄} :
    iprop(records m ρ K ∗ owing c 0 ∗ toReceive c 2 ∗ toReceive c 3)
      ⊢ iprop(((owing c 0 ∗ received m ρ c 2 ∗ received m ρ c 3) -∗ Q ⟨(bestAt m ρ c 3).1, (bestAt m ρ c 3).2, asRow (part m ρ (peer c (3 : Fin 7).val)) 0⟩)
          -∗ WP c (k0_part6 xM (Memref.isWhole_whole _) oM (Memref.isWhole_whole _) pM (Memref.isWhole_whole _) cM (Memref.isWhole_whole _) cc0_scratch2 cc0_scratch3 c v2 (bestAt m ρ c 1).1 (bestAt m ρ c 1).2 (asRow (part m ρ (peer c (1 : Fin 7).val)) 0) (asRow (part m ρ (peer c (1 : Fin 7).val)) 1) (cmpf .ogt (asRow (part m ρ (peer c (1 : Fin 7).val)) 0) (bestAt m ρ c 1).1) (cmpf .oeq (asRow (part m ρ (peer c (1 : Fin 7).val)) 0) (bestAt m ρ c 1).1)) Q) := by
  unfold WP
  rw [k0_part6_eq_skeleton]; unfold k0_part6_skel
  simp only [semSignalWord, semWaitWord, Prog.lift, Prog.bind_op, Prog.bind_ret, Prog.pure_eq_ret, wp_deviceId]
  iintro ⟨#HR, HO, H2, H3⟩ Hk
  iapply (wp_step_receive m ρ K c 2 _ _ _ (rcv_at (peer c 2) _ _ (k0_off3_eq c 2))) $$ [HO H2]
  · isplitr; · iexact HR
    isplitl [HO] <;> iassumption
  iintro ⟨HO, H2⟩
  iapply (wp_step_row m ρ c 2 0 _ (k0_off5_eq c 2) _) $$ H2; iintro H2
  iapply (wp_step_row m ρ c 2 1 _ (k0_off6_eq c 2) _) $$ H2; iintro H2
  iapply (wp_step_receive m ρ K c 3 _ _ _ (rcv_at (peer c 3) _ _ (k0_off3_eq c 3))) $$ [HO H3]
  · isplitr; · iexact HR
    isplitl [HO] <;> iassumption
  iintro ⟨HO, H3⟩
  iapply (wp_step_row m ρ c 3 0 _ (k0_off5_eq c 3) _) $$ H3; iintro H3
  rw [stage2_val, stage2_idx, stage2_row0]
  rw [show meet (meet (bestAt m ρ c 1) (part m ρ (peer c (1 : Fin 7).val))) (part m ρ (peer c (2 : Fin 7).val)) = bestAt m ρ c 3 from rfl]
  rw [wp_ret]; imodintro
  iapply Hk
  isplitl [HO]; · iexact HO
  isplitl [H2] <;> iassumption

set_option maxHeartbeats 1000000 in
/-- Peers 4 and 5 received; those up to the fifth taken in. -/
theorem run_part7 (v2 : BitVec 32) {Q : (Σ' (v226 : FVec F S1x512 .f32) (v227 : FVec F S1x512 .f32), BitVec 32) → sProp 𝕄} :
    iprop(records m ρ K ∗ owing c 0 ∗ received m ρ c 3 ∗ toReceive c 4 ∗ toReceive c 5)
      ⊢ iprop(((owing c 0 ∗ received m ρ c 3 ∗ received m ρ c 4 ∗ received m ρ c 5) -∗ Q ⟨(bestAt m ρ c 5).1, (bestAt m ρ c 5).2, Scalar.remsi (Scalar.addi v2 6#32) 8#32⟩)
          -∗ WP c (k0_part7 xM (Memref.isWhole_whole _) oM (Memref.isWhole_whole _) pM (Memref.isWhole_whole _) cM (Memref.isWhole_whole _) cc0_scratch2 cc0_scratch3 c v2 (bestAt m ρ c 3).1 (bestAt m ρ c 3).2 (asRow (part m ρ (peer c (3 : Fin 7).val)) 0)) Q) := by
  unfold WP
  rw [k0_part7_eq_skeleton]; unfold k0_part7_skel
  simp only [semSignalWord, semWaitWord, Prog.lift, Prog.bind_op, Prog.bind_ret, Prog.pure_eq_ret, wp_deviceId]
  iintro ⟨#HR, HO, H3, H4, H5⟩ Hk
  iapply (wp_step_row m ρ c 3 1 _ (k0_off6_eq c 3) _) $$ H3; iintro H3
  iapply (wp_step_receive m ρ K c 4 _ _ _ (rcv_at (peer c 4) _ _ (k0_off3_eq c 4))) $$ [HO H4]
  · isplitr; · iexact HR
    isplitl [HO] <;> iassumption
  iintro ⟨HO, H4⟩
  iapply (wp_step_row m ρ c 4 0 _ (k0_off5_eq c 4) _) $$ H4; iintro H4
  iapply (wp_step_row m ρ c 4 1 _ (k0_off6_eq c 4) _) $$ H4; iintro H4
  iapply (wp_step_receive m ρ K c 5 _ _ _ (rcv_at (peer c 5) _ _ (k0_off3_eq c 5))) $$ [HO H5]
  · isplitr; · iexact HR
    isplitl [HO] <;> iassumption
  iintro ⟨HO, H5⟩
  rw [stage3_val, stage3_idx]
  rw [show meet (meet (bestAt m ρ c 3) (part m ρ (peer c (3 : Fin 7).val))) (part m ρ (peer c (4 : Fin 7).val)) = bestAt m ρ c 5 from rfl]
  rw [wp_ret]; imodintro
  iapply Hk
  isplitl [HO]; · iexact HO
  isplitl [H3]; · iexact H3
  isplitl [H4] <;> iassumption

set_option maxHeartbeats 1000000 in
/-- The last peer received and taken in; the result's two rows stored. -/
theorem run_part8 (v2 w : BitVec 32) {Q : PUnit → sProp 𝕄} :
    iprop(records m ρ K ∗ owing c 0 ∗ received m ρ c 5 ∗ toReceive c 6 ∗ (∃ f, oPts c f))
      ⊢ iprop(((owing c 0 ∗ received m ρ c 5 ∗ received m ρ c 6 ∗ oPts c (outAt m ρ c)) -∗ Q ⟨⟩)
          -∗ WP c (k0_part8 xM (Memref.isWhole_whole _) oM (Memref.isWhole_whole _) pM (Memref.isWhole_whole _) cM (Memref.isWhole_whole _) cc0_scratch2 cc0_scratch3 c v2 (bestAt m ρ c 5).1 (bestAt m ρ c 5).2 w) Q) := by
  unfold WP
  rw [k0_part8_eq_skeleton]; unfold k0_part8_skel
  simp only [semSignalWord, semWaitWord, Prog.lift, Prog.bind_op, Prog.bind_ret, Prog.pure_eq_ret, wp_deviceId]
  iintro ⟨#HR, HO, H5, H6, ⟨%f, Hout⟩⟩ Hk
  iapply (wp_step_row m ρ c 5 0 _ (k0_off5_eq c 5) _) $$ H5; iintro H5
  iapply (wp_step_row m ρ c 5 1 _ (k0_off6_eq c 5) _) $$ H5; iintro H5
  iapply (wp_step_receive m ρ K c 6 _ _ _ (rcv_at (peer c 6) _ _ (k0_off3_eq c 6))) $$ [HO H6]
  · isplitr; · iexact HR
    isplitl [HO] <;> iassumption
  iintro ⟨HO, H6⟩
  iapply (wp_step_row m ρ c 6 0 _ (k0_off5_eq c 6) _) $$ H6; iintro H6
  iapply (wp_step_row m ρ c 6 1 _ (k0_off6_eq c 6) _) $$ H6; iintro H6
  unfold oPts
  iapply (wp_load 𝒱₀ (c : Thread nD τ) none Set.univ (m := oM) (Finset.subset_univ _)) $$ Hout; iintro Hout
  iapply (wp_store 𝒱₀ (c : Thread nD τ) none Set.univ (m := oM) (r := row0) (Mk := Finset.univ) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := row1) (Mk := Finset.univ) (Finset.subset_univ _)) $$ Hout; iintro Hout
  rw [write_out, stage4_val, stage4_idx]
  rw [show meet (meet (bestAt m ρ c 5) (part m ρ (peer c (5 : Fin 7).val))) (part m ρ (peer c (6 : Fin 7).val)) = bestAt m ρ c 7 from rfl]
  unfold outAt
  rw [wp_ret]; imodintro
  iapply Hk
  isplitl [HO]; · iexact HO
  isplitl [H5]; · iexact H5
  isplitl [H6] <;> iassumption

set_option maxHeartbeats 1000000 in
/-- The first six copies have left. -/
theorem run_part9 {Q : PUnit → sProp 𝕄} :
    iprop(records m ρ K ∗ owing c 0 ∗ toSent c 0 ∗ toSent c 1 ∗ toSent c 2 ∗ toSent c 3 ∗ toSent c 4 ∗ toSent c 5)
      ⊢ iprop(((owing c 0 ∗ sent m ρ c 0 ∗ sent m ρ c 1 ∗ sent m ρ c 2 ∗ sent m ρ c 3 ∗ sent m ρ c 4 ∗ sent m ρ c 5) -∗ Q ⟨⟩)
          -∗ WP c (k0_part9 xM (Memref.isWhole_whole _) oM (Memref.isWhole_whole _) pM (Memref.isWhole_whole _) cM (Memref.isWhole_whole _) cc0_scratch2 cc0_scratch3 c) Q) := by
  unfold WP
  rw [k0_part9_eq_skeleton]; unfold k0_part9_skel
  simp only [semSignalWord, semWaitWord, Prog.lift, Prog.bind_op, Prog.bind_ret, Prog.pure_eq_ret, wp_deviceId]
  iintro ⟨#HR, HO, H0, H1, H2, H3, H4, H5⟩ Hk
  iapply (wp_step_sent m ρ K c 0 _ _ _ (snd_at (out 0) _ _ rfl)) $$ [HO H0]
  · isplitr; · iexact HR
    isplitl [HO] <;> iassumption
  iintro ⟨HO, H0⟩
  iapply (wp_step_sent m ρ K c 1 _ _ _ (snd_at (out 1) _ _ rfl)) $$ [HO H1]
  · isplitr; · iexact HR
    isplitl [HO] <;> iassumption
  iintro ⟨HO, H1⟩
  iapply (wp_step_sent m ρ K c 2 _ _ _ (snd_at (out 2) _ _ rfl)) $$ [HO H2]
  · isplitr; · iexact HR
    isplitl [HO] <;> iassumption
  iintro ⟨HO, H2⟩
  iapply (wp_step_sent m ρ K c 3 _ _ _ (snd_at (out 3) _ _ rfl)) $$ [HO H3]
  · isplitr; · iexact HR
    isplitl [HO] <;> iassumption
  iintro ⟨HO, H3⟩
  iapply (wp_step_sent m ρ K c 4 _ _ _ (snd_at (out 4) _ _ rfl)) $$ [HO H4]
  · isplitr; · iexact HR
    isplitl [HO] <;> iassumption
  iintro ⟨HO, H4⟩
  iapply (wp_step_sent m ρ K c 5 _ _ _ (snd_at (out 5) _ _ rfl)) $$ [HO H5]
  · isplitr; · iexact HR
    isplitl [HO] <;> iassumption
  iintro ⟨HO, H5⟩
  rw [wp_ret]; imodintro
  iapply Hk
  isplitl [HO]; · iexact HO
  isplitl [H0]; · iexact H0
  isplitl [H1]; · iexact H1
  isplitl [H2]; · iexact H2
  isplitl [H3]; · iexact H3
  isplitl [H4] <;> iassumption

end Run

end Cert.ArgmaxRun

end
-- ==== Proof.Body.lean ====
/-
# The kernel's body, whole

The nine parts in sequence and the last wait, from what a device starts with to what it leaves: the result staged, its
buffers whole again, every one of its cells closed.
-/
module

public import proofs.«01_k».proof.Proof.Parts
public import Idealize.ShloMosaic.Lib.Ring.FamCut

@[expose] public section

noncomputable section

namespace Cert.ArgmaxRun

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 17 → ℕ)

variable (c : Dev nD)

/-- What the body needs towards each peer. -/
def dealings (c : Dev nD) : sProp 𝕄 :=
  bigSep Finset.univ fun r : Fin 7 => iprop(toSignal (F := F) c r ∗ toCopy c r ∗ toReceive c r)

set_option maxHeartbeats 1000000 in
/-- The body's run. -/
theorem run_body {Q : PUnit → sProp 𝕄} :
    iprop(records m ρ K ∗ levAts L lv ∗ owing c (owedAll c 7) ∗ xPts m ρ c ∗ (∃ f, pAll c f) ∗ (∃ f, oPts c f)
        ∗ cred (tallyAt (barCell c) () 7) ∗ atPos ER (barCell c) 0 ∅ 0 ∗ dealings c)
      ⊢ iprop(((owing c 0 ∗ xPts m ρ c ∗ oPts c (outAt m ρ c) ∗ partPts m ρ c 0 ∗ semVal (barCell c) 0
            ∗ (bigSep Finset.univ fun r : Fin 7 => received m ρ c r) ∗ (bigSep Finset.univ fun r : Fin 7 => sent m ρ c r)) -∗ Q ⟨⟩)
          -∗ WP c (cc0_body xM (Memref.isWhole_whole _) oM (Memref.isWhole_whole _) pM (Memref.isWhole_whole _) cM (Memref.isWhole_whole _) cc0_scratch2 cc0_scratch3) Q) := by
  rw [cc0_body_eq_skeleton]; unfold cc0_body_skel
  unfold dealings WP
  rw [bigSep_sep', bigSep_sep', bigSep_seven, bigSep_seven, bigSep_seven, wp_bind]
  iintro ⟨#HR, #Hlev, HO, Hx, Hp, Hout, Hc, Hat, ⟨S0, S1, S2, S3, S4, S5, S6⟩, ⟨C0, C1, C2, C3, C4, C5, C6⟩, V0, V1, V2, V3, V4, V5, V6⟩ Hk
  iapply (run_part1 m ρ K c) $$ [HO S0 S1 S2 S3 S4]
  · isplitr; · iexact HR
    isplitl [HO]; · iexact HO
    isplitl [S0]; · iexact S0
    isplitl [S1]; · iexact S1
    isplitl [S2]; · iexact S2
    isplitl [S3] <;> iassumption
  iintro HO
  dsimp only
  rw [wp_bind]
  iapply (run_part2 m ρ K c _ _) $$ [HO S5 S6 Hx Hp Hc Hat]
  · isplitr; · iexact HR
    isplitr; · iexact Hlev
    isplitl [HO]; · iexact HO
    isplitl [S5]; · iexact S5
    isplitl [S6]; · iexact S6
    isplitl [Hx]; · iexact Hx
    isplitl [Hp]; · iexact Hp
    isplitl [Hc] <;> iassumption
  iintro ⟨HO, Hx, Hp, Hs, Hz⟩
  dsimp only
  rw [wp_bind]
  -- the part's shares and the peers' slots, one of each to a copy
  ihave Hp := (Entails.of_eq ((pAll_shares m ρ c).trans (bigSep_outs _))) $$ Hp
  icases Hp with ⟨Hp0, Hp⟩
  ihave Hg := (Entails.of_eq (bigSep_sep' Finset.univ (fun r : Fin 7 => partPts m ρ c (out r)) (fun r : Fin 7 => iprop(∃ f, slotPts (F := F) (peer c r.val) c f))).symm) $$ [Hp Hs]
  · isplitl [Hp] <;> iassumption
  ihave Hg := (Entails.of_eq (show (bigSep Finset.univ fun r : Fin 7 => iprop(partPts m ρ c (out r) ∗ ∃ f, slotPts (F := F) (peer c r.val) c f))
    = bigSep Finset.univ (fun r : Fin 7 => cargo m ρ c r) from rfl)) $$ Hg
  ihave Hg := (Entails.of_eq (bigSep_seven (fun r : Fin 7 => cargo m ρ c r))) $$ Hg
  icases Hg with ⟨G0, G1, G2, G3, G4, G5, G6⟩
  iapply (run_part3 m ρ K c _ _) $$ [HO C0 G0 C1 G1 C2 G2]
  · isplitr; · iexact HR
    isplitl [HO]; · iexact HO
    isplitl [C0]; · iexact C0
    isplitl [G0]; · iexact G0
    isplitl [C1]; · iexact C1
    isplitl [G1]; · iexact G1
    isplitl [C2] <;> iassumption
  iintro ⟨HO, C0, C1, C2⟩
  rw [wp_bind]
  iapply (run_part4 m ρ K c _) $$ [HO C3 G3 C4 G4 C5 G5 C6 G6]
  · isplitr; · iexact HR
    isplitl [HO]; · iexact HO
    isplitl [C3]; · iexact C3
    isplitl [G3]; · iexact G3
    isplitl [C4]; · iexact C4
    isplitl [G4]; · iexact G4
    isplitl [C5]; · iexact C5
    isplitl [G5]; · iexact G5
    isplitl [C6] <;> iassumption
  iintro ⟨HO, C3, C4, C5, C6⟩
  rw [wp_bind]
  iapply (run_part5 m ρ K c _ _) $$ [HO V0 V1]
  · isplitr; · iexact HR
    isplitl [HO]; · iexact HO
    isplitl [V0] <;> iassumption
  iintro ⟨HO, V0, V1⟩
  dsimp only
  rw [wp_bind]
  iapply (run_part6 m ρ K c _) $$ [HO V2 V3]
  · isplitr; · iexact HR
    isplitl [HO]; · iexact HO
    isplitl [V2] <;> iassumption
  iintro ⟨HO, V2, V3⟩
  dsimp only
  rw [wp_bind]
  iapply (run_part7 m ρ K c _) $$ [HO V3 V4 V5]
  · isplitr; · iexact HR
    isplitl [HO]; · iexact HO
    isplitl [V3]; · iexact V3
    isplitl [V4] <;> iassumption
  iintro ⟨HO, V3, V4, V5⟩
  dsimp only
  rw [wp_bind]
  iapply (run_part8 m ρ K c _ _) $$ [HO V5 V6 Hout]
  · isplitr; · iexact HR
    isplitl [HO]; · iexact HO
    isplitl [V5]; · iexact V5
    isplitl [V6] <;> iassumption
  iintro ⟨HO, V5, V6, Hout⟩
  rw [wp_bind]
  iapply (run_part9 m ρ K c) $$ [HO C0 C1 C2 C3 C4 C5]
  · isplitr; · iexact HR
    isplitl [HO]; · iexact HO
    isplitl [C0]; · iexact C0
    isplitl [C1]; · iexact C1
    isplitl [C2]; · iexact C2
    isplitl [C3]; · iexact C3
    isplitl [C4] <;> iassumption
  iintro ⟨HO, C0, C1, C2, C3, C4, C5⟩
  simp only [Prog.lift, Prog.bind_op, Prog.bind_ret, Prog.pure_eq_ret]
  iapply (wp_step_sent m ρ K c 6 _ _ _ (snd_at (out 6) _ _ rfl)) $$ [HO C6]
  · isplitr; · iexact HR
    isplitl [HO] <;> iassumption
  iintro ⟨HO, C6⟩
  rw [wp_ret]; imodintro
  rw [bigSep_seven, bigSep_seven]
  iapply Hk
  isplitl [HO]; · iexact HO
  isplitl [Hx]; · iexact Hx
  isplitl [Hout]; · iexact Hout
  isplitl [Hp0]; · iexact Hp0
  isplitl [Hz]; · iexact Hz
  isplitl [V0 V1 V2 V3 V4 V5 V6]
  · isplitl [V0]; · iexact V0
    isplitl [V1]; · iexact V1
    isplitl [V2]; · iexact V2
    isplitl [V3]; · iexact V3
    isplitl [V4]; · iexact V4
    isplitl [V5] <;> iassumption
  isplitl [C0]; · iexact C0
  isplitl [C1]; · iexact C1
  isplitl [C2]; · iexact C2
  isplitl [C3]; · iexact C3
  isplitl [C4]; · iexact C4
  isplitl [C5] <;> iassumption

/-! ## What a device starts with, and what it leaves -/

/-- The whole receive buffer at `f`. -/
def cAll (c : Dev nD) (f : Vec F S8x2x512 .f32) : sProp 𝕄 := ((c : Thread nD τ).loc cc0_scratch1) ↦{fullShare} f
/-- What of the receive buffer lies in no slot. -/
def cRest (c : Dev nD) : sProp 𝕄 :=
  iprop(∃ f : Buf (Elt F) ((c : Thread nD τ).loc cc0_scratch1), ((c : Thread nD τ).loc cc0_scratch1) ↦[Ring.restOf fun s : Fin 8 => (slotM s).view.set]{fullShare} f)

/-- The receive buffer falls into its eight slots (and a rest), -/
theorem cAll_split (c : Dev nD) : iprop(∃ f, cAll (F := F) c f) ⊢ iprop((bigSep Finset.univ fun s : Fin 8 => iprop(∃ f, slotPts (F := F) c s f)) ∗ cRest c) :=
  Ring.fam_split_ex (ℓ := (c : Thread nD τ).loc cc0_scratch1) (fun s : Fin 8 => (slotM s).view.set) slots_disjoint
/-- and is put together from them. -/
theorem cAll_join (c : Dev nD) (f₀ : Vec F S8x2x512 .f32) :
    iprop((bigSep Finset.univ fun s : Fin 8 => iprop(∃ f, slotPts (F := F) c s f)) ∗ cRest c) ⊢ iprop(∃ f, cAll (F := F) c f) :=
  Ring.fam_join (ℓ := (c : Thread nD τ).loc cc0_scratch1) (fun s : Fin 8 => (slotM s).view.set) slots_disjoint f₀

/-- Send cells of different numbers are different, -/
theorem kS_inj {j j' : Fin 8} (h : kS j = kS j') : j = j' := by revert j j'; decide
/-- and so are receive cells. -/
theorem kR_inj {j j' : Fin 8} (h : kR j = kR j') : j = j' := by revert j j'; decide
/-- A family over a device's cells: the barrier's, the send cells', the receive cells'. -/
theorem bigSep_cells (Φ : Fin 17 → sProp 𝕄) : bigSep Finset.univ Φ
    = iprop(Φ 0 ∗ (bigSep Finset.univ fun j : Fin 8 => Φ (kS j)) ∗ bigSep Finset.univ fun s : Fin 8 => Φ (kR s)) := by
  rw [bigSep_univ_at Φ (0 : Fin 17),
    show (Finset.univ.erase 0 : Finset (Fin 17)) = Finset.univ.image kS ∪ Finset.univ.image kR from by decide,
    bigSep_union (by decide), bigSep_image_of_injOn (fun _ _ _ _ h => kS_inj h), bigSep_image_of_injOn (fun _ _ _ _ h => kR_inj h)]
  rfl

/-- The tokens of the duties device `c` pays towards its `r`-th peer. -/
def toks (c : Dev nD) (r : Fin 7) : sProp 𝕄 :=
  iprop(dutyTok ER (barCell (peer c r.val)) 0 c ∗ dutyTok ER (sendCell c (out r)) 0 0 ∗ dutyTok ER (recvCell (peer c r.val) c) 0 0)

/-- Device `c`'s ghost state at launch: the records, its positions, its tokens. -/
def ghost (c : Dev nD) : sProp 𝕄 :=
  iprop(records m ρ K ∗ (bigSep Finset.univ fun k : Fin 17 => atPos ER (kcell (c, k)) 0 ∅ 0) ∗ bigSep Finset.univ fun r : Fin 7 => toks c r)

/-- The credit it draws on at its waits for the peers' parts. -/
def recvCreds (c : Dev nD) : sProp 𝕄 := bigSep Finset.univ fun r : Fin 7 => cred (tallyAt (recvCell c (peer c r.val)) () N)

/-- What a device holds once all is over: its two buffers whole, all its cells at zero. -/
def leftOver (c : Dev nD) : sProp 𝕄 :=
  iprop((∃ f, pAll (F := F) c f) ∗ (∃ f, cAll (F := F) c f) ∗ (bigSep Finset.univ fun j : Fin 8 => semVal (sendCell c j) 0)
    ∗ (bigSep Finset.univ fun s : Fin 8 => semVal (recvCell c s) 0) ∗ semVal (barCell c) 0)

/-- The starting state sorted by peer. -/
theorem sort_out : iprop((bigSep Finset.univ fun k : Fin 17 => atPos ER (kcell (c, k)) 0 ∅ 0) ∗ (bigSep Finset.univ fun r : Fin 7 => toks (F := F) c r)
      ∗ recvCreds c ∗ ∃ f, cAll (F := F) c f)
    ⊢ iprop((atPos ER (barCell c) 0 ∅ 0 ∗ dealings (F := F) c) ∗ atPos ER (sendCell c 0) 0 ∅ 0 ∗ atPos ER (recvCell c c) 0 ∅ 0
        ∗ (∃ f, slotPts (F := F) c c f) ∗ cRest c) := by
  unfold dealings toks recvCreds toSignal toCopy toReceive
  simp only [bigSep_sep']
  rw [bigSep_cells, kcell_bar]
  simp only [kcell_send, kcell_recv]
  rw [bigSep_outs, bigSep_peers c]
  iintro ⟨⟨HaB, ⟨HaS, HaSs⟩, HaV, HaVs⟩, ⟨HtB, HtS, HtV⟩, Hcr, Hcomm⟩
  ihave Hc := (cAll_split c) $$ Hcomm
  rw [bigSep_peers c]
  icases Hc with ⟨⟨Hown, Hslots⟩, Hrest⟩
  isplitr [HaS HaV Hown Hrest]
  · isplitl [HaB]; · iexact HaB
    isplitl [HtB Hslots]
    · isplitl [HtB] <;> iassumption
    isplitl [HtS HtV HaSs]
    · isplitl [HtS]; · iexact HtS
      isplitl [HtV] <;> iassumption
    isplitl [Hcr] <;> iassumption
  isplitl [HaS]; · iexact HaS
  isplitl [HaV]; · iexact HaV
  isplitl [Hown] <;> iassumption

/-- A slot filled is a slot at some contents. -/
theorem slots_some (c : Dev nD) : (bigSep Finset.univ fun r : Fin 7 => slotPts c (peer c r.val) (landed m ρ))
    ⊢ (bigSep Finset.univ fun r : Fin 7 => iprop(∃ f, slotPts (F := F) c (peer c r.val) f) : sProp 𝕄) :=
  bigSep_mono fun r _ => (by iintro H; iexists _; iexact H : slotPts c (peer c r.val) (landed m ρ) ⊢ (iprop(∃ f, slotPts (F := F) c (peer c r.val) f) : sProp 𝕄))

/-- What the run leaves, put together again. -/
theorem gather_up : iprop(records m ρ K ∗ partPts m ρ c 0 ∗ semVal (barCell c) 0
      ∗ (bigSep Finset.univ fun r : Fin 7 => received m ρ c r) ∗ (bigSep Finset.univ fun r : Fin 7 => sent m ρ c r)
      ∗ atPos ER (sendCell c 0) 0 ∅ 0 ∗ atPos ER (recvCell c c) 0 ∅ 0 ∗ (∃ f, slotPts (F := F) c c f) ∗ cRest c)
    ⊢ |={Set.univ}=> leftOver (F := F) c := by
  unfold leftOver received sent
  simp only [bigSep_sep']
  iintro ⟨#HR, Hp0, HzB, ⟨Hslots, HzV⟩, ⟨Hps, HzS⟩, HaS, HaV, Hown, Hrest⟩
  imod (Rounds.cell_close ER (xRd m ρ) (Set.mem_univ (K (c, kS 0))) (fun h => h) (R := 0) (duties_unused m ρ c (sndS 0) (unused_send c))) $$ [HaS] with HzS0
  · isplitr; · iapply (inv_at m ρ K (c, kS 0) _ (kcell_send _ _)); iexact HR
    iexact HaS
  imod (Rounds.cell_close ER (xRd m ρ) (Set.mem_univ (K (c, kR c))) (fun h => h) (R := 0) (duties_unused m ρ c (rcvS c) (unused_recv c))) $$ [HaV] with HzV0
  · isplitr; · iapply (inv_at m ρ K (c, kR c) _ (kcell_recv _ _)); iexact HR
    iexact HaV
  ihave Hslots := (slots_some m ρ c) $$ Hslots
  ihave Hs := (Entails.of_eq (bigSep_peers c (fun s : Fin 8 => iprop(∃ f, slotPts (F := F) c s f))).symm) $$ [Hown Hslots]
  · isplitl [Hown] <;> iassumption
  ihave Hc := (cAll_join c (landed m ρ)) $$ [Hs Hrest]
  · isplitl [Hs] <;> iassumption
  ihave Hp := (Entails.of_eq ((pAll_shares m ρ c).trans (bigSep_outs _)).symm) $$ [Hp0 Hps]
  · isplitl [Hp0] <;> iassumption
  imodintro
  rw [bigSep_outs (fun j : Fin 8 => (semVal (sendCell c j) 0 : sProp 𝕄)), bigSep_peers c (fun s : Fin 8 => (semVal (recvCell c s) 0 : sProp 𝕄))]
  isplitl [Hp]; · iexists _; iexact Hp
  isplitl [Hc]; · iexact Hc
  isplitl [HzS0 HzS]
  · isplitl [HzS0] <;> iassumption
  isplitl [HzV0 HzV]
  · isplitl [HzV0] <;> iassumption
  iexact HzB

end Cert.ArgmaxRun

end
-- ==== Proof.Point.lean ====
/-
# The one grid point

What the pipeline is told of the kernel's single point, and that the body keeps to it.
-/
module

public import proofs.«01_k».proof.Proof.Body
public import proofs.«01_k».proof.Proof.Gen.KernelIdeal.Launch

@[expose] public section

noncomputable section

namespace Cert.ArgmaxRun

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 17 → ℕ)

/-- What device `c`'s body starts from besides its buffers: the ghost state under some names, the credit for its barrier
    and its receptions, the levels. -/
def start (c : Dev nD) : sProp 𝕄 :=
  iprop((∃ K, ghost m ρ K c) ∗ cred (tallyAt (barCell c) () 7) ∗ recvCreds c ∗ levAts L lv)

/-- Before the point: that and the two scratch buffers; -/
def Φ₀ (c : Dev nD) : sProp 𝕄 := iprop(start m ρ c ∗ (∃ f, pAll (F := F) c f) ∗ ∃ f, cAll (F := F) c f)

/-- The point's data: the arrays as found, the block staged in, the result staged out; all debts paid by the end. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => leftOver c
  q _ := fullShare
  owed t := match t with
    | ⟨0, _⟩ => O₀ c
    | ⟨_ + 1, _⟩ => 0

/-- The argument is fetched at the one point. -/
theorem fetched (t : Fin cfg0.N) : (cfg0.win (0 : Fin 2)).fetch t = true := by rw [fin_N0 t]; rfl

/-- A whole buffer at `X`, as the pipeline states it. -/
abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- Owning a whole buffer, in both spellings. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns held; simp only [Memref.view_whole, View.read_whole, View.set_whole]

/-- The point's precondition and postcondition, spelled out. -/
def pointPre (c : Dev nD) : sProp 𝕄 :=
  iprop(Φ₀ m ρ c ∗ (dats m ρ 0 c).owesAt () t0_0.castSucc
    ∗ (∃ d, held c cc0_stg0_0 ((dats m ρ 0 c).before (0 : Fin 2) t0_0 d))
    ∗ (∃ d, held c cc0_stg1_0 ((dats m ρ 0 c).before (1 : Fin 2) t0_0 d)))
def pointPost (c : Dev nD) : sProp 𝕄 :=
  iprop(leftOver c ∗ (dats m ρ 0 c).owesAt () t0_0.succ ∗ held c cc0_stg0_0 (xstg m ρ c) ∗ held c cc0_stg1_0 (outAt m ρ c))

set_option maxHeartbeats 800000 in
/-- The body meets them. -/
theorem point_run (c : Dev nD) : pointPre m ρ c ⊢ WP c (cc0_body xM (Memref.isWhole_whole _) oM (Memref.isWhole_whole _) pM (Memref.isWhole_whole _) cM (Memref.isWhole_whole _) cc0_scratch2 cc0_scratch3) (fun _ => pointPost m ρ c) := by
  unfold pointPre Φ₀ start ghost
  iintro ⟨⟨⟨⟨%K, #HR, Hpos, Htk⟩, HcB, HcV, #Hlev⟩, Hp, Hc⟩, Ho, ⟨%d0, %g0, %hg0, Hx⟩, ⟨%d1, %g1, %hg1, Hout⟩⟩
  have hx : g0 = xstg m ρ c := by rw [hg0]; unfold Dat.before; rw [if_pos (fetched t0_0)]; rfl
  subst hx
  unfold Dat.owesAt Pipeline.owesWithin
  icases Ho with ⟨%W, %hW, HO⟩
  rw [show (dats m ρ 0 c).owed t0_0.castSucc = owedAll c 7 from rfl]
  ihave Hs := (sort_out (F := F) c) $$ [Hpos Htk HcV Hc]
  · isplitl [Hpos]; · iexact Hpos
    isplitl [Htk]; · iexact Htk
    isplitl [HcV] <;> iassumption
  icases Hs with ⟨⟨HatB, Hdeal⟩, HatS, HatV, Hown, Hrest⟩
  unfold WP
  iapply (wp_fupd _ _)
  iapply (run_body m ρ K c) $$ [HO Hx Hp Hout HcB HatB Hdeal]
  · isplitr; · iexact HR
    isplitr; · iexact Hlev
    isplitl [HO]; · unfold owing; iexists W; iexact HO
    isplitl [Hx]; · unfold xPts; iexact Hx
    isplitl [Hp]; · iexact Hp
    isplitl [Hout]; · unfold oPts; iexists g1; iexact Hout
    isplitl [HcB]; · iexact HcB
    isplitl [HatB] <;> iassumption
  iintro ⟨HO, Hx, Hout, Hp0, HzB, Hrec, Hsent⟩
  imod (gather_up m ρ K c) $$ [Hp0 HzB Hrec Hsent HatS HatV Hown Hrest] with Hleft
  · isplitr; · iexact HR
    isplitl [Hp0]; · iexact Hp0
    isplitl [HzB]; · iexact HzB
    isplitl [Hrec]; · iexact Hrec
    isplitl [Hsent]; · iexact Hsent
    isplitl [HatS]; · iexact HatS
    isplitl [HatV]; · iexact HatV
    isplitl [Hown] <;> iassumption
  imodintro
  unfold pointPost Dat.owesAt Pipeline.owesWithin owing
  icases HO with ⟨%W', HO⟩
  rw [show (dats m ρ 0 c).owed t0_0.succ = 0 from rfl]
  isplitl [Hleft]; · iexact Hleft
  isplitl [HO]
  · iexists W'
    isplitr; · ipureintro; exact fun _ _ => Or.inl trivial
    iexact HO
  isplitl [Hx]
  · iexists _; isplitr; · (ipureintro; rfl)
    unfold xPts; iexact Hx
  iexists _; isplitr; · (ipureintro; rfl)
  unfold oPts; iexact Hout

set_option maxRecDepth 4000 in
/-- The pipeline's obligation on core `c`. -/
theorem body_meets (c : Dev nD) : BodyObligation (dats (F := F) m ρ 0 c) (defs₀ (F := F)) 𝒱₀ () Set.univ := fun t => by
  rw [fin_N0 t]
  rw [bigSep_W0, bigSep_W0]
  simp only [owns_whole]
  exact point_run m ρ c

end Cert.ArgmaxRun

end
-- ==== Proof.Mint.lean ====
/-
# Minting and dealing the ghost state

Every cell's round state and every duty's token is minted at once.  A token is minted under the device that pays with it, so
that nothing has to be handed around afterwards.
-/
module

public import proofs.«01_k».proof.Proof.Point
public import Idealize.ShloMosaic.Lib.Pipeline.Kit

@[expose] public section

noncomputable section

namespace Cert.ArgmaxRun

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 17 → ℕ)

/-! ## The cells and the tokens -/

/-- A device's cells have different numbers, -/
theorem csem_inj {k k' : Fin 17} (h : csem k = csem k') : k = k' := by revert k k'; decide
/-- and the mesh's cells are all different. -/
theorem kcell_inj : Function.Injective (kcell : Dev nD × Fin 17 → GSem nD τ sig) := by
  rintro ⟨c, k⟩ ⟨c', k'⟩ h
  have hc : c = c' := congrArg (fun g : GSem nD τ sig => g.1.1) h
  have hk : k = k' := csem_inj (congrArg (fun g : GSem nD τ sig => g.2) h)
  rw [hc, hk]
/-- All cells. -/
def allCells : Finset (GSem nD τ sig) := Finset.univ.map ⟨kcell, kcell_inj⟩

/-- The tokens device `c` pays with towards its `r`-th peer: a signal, a departure, an arrival. -/
def tok (x : Dev nD × Fin 7 × Fin 3) : GSem nD τ sig × ℕ × Fin 8 :=
  if x.2.2 = 0 then (barCell (peer x.1 x.2.1.val), 0, x.1)
  else if x.2.2 = 1 then (sendCell x.1 (out x.2.1), 0, 0)
  else (recvCell (peer x.1 x.2.1.val) x.1, 0, 0)

/-- The barrier's semaphore is no send semaphore, -/
theorem kind_ne_bar_send {c p : Dev nD} {j : Fin 8} : (barCell p).2 ≠ (sendCell c j).2 := fun h => by cases h
/-- and no receive semaphore. -/
theorem kind_ne_bar_recv {c p : Dev nD} {s : Fin 8} : (barCell p).2 ≠ (recvCell c s).2 := fun h => by cases h
/-- A send semaphore tells its number, -/
theorem send_number {c c' : Dev nD} {j j' : Fin 8} (h : (sendCell c j).2 = (sendCell c' j').2) : j = j' := by
  have : (sndS j).val = (sndS j').val := congrArg Fin.val (SemLoc.dma.inj h)
  exact Fin.ext (by change 2 + j.val = 2 + j'.val at this; omega)
/-- a receive semaphore too, -/
theorem recv_number {c c' : Dev nD} {s s' : Fin 8} (h : (recvCell c s).2 = (recvCell c' s').2) : s = s' := by
  have : (rcvS s).val = (rcvS s').val := congrArg Fin.val (SemLoc.dma.inj h)
  exact Fin.ext (by change 10 + s.val = 10 + s'.val at this; omega)
/-- and no send semaphore is a receive semaphore. -/
theorem kind_ne_send_recv {c c' : Dev nD} {j s : Fin 8} : (sendCell c j).2 ≠ (recvCell c' s).2 := fun h => by
  have : (sndS j).val = (rcvS s).val := congrArg Fin.val (SemLoc.dma.inj h)
  have hj := j.isLt
  change 2 + j.val = 10 + s.val at this; omega

/-- The tokens are all different. -/
theorem tok_inj : Function.Injective tok := by
  rintro ⟨c, r, k⟩ ⟨c', r', k'⟩ h
  have hd : (tok (c, r, k)).1.1.1 = (tok (c', r', k')).1.1.1 := by rw [h]
  have hs : (tok (c, r, k)).1.2 = (tok (c', r', k')).1.2 := by rw [h]
  have hp : (tok (c, r, k)).2.2 = (tok (c', r', k')).2.2 := by rw [h]
  match k, k' with
  | 0, 0 =>
    have hc : c = c' := hp
    subst hc
    rw [peer_inj c r r' hd]
  | 1, 1 =>
    have hc : c = c' := hd
    subst hc
    rw [show r = r' from Fin.succ_injective _ (send_number (c := c) (c' := c) hs)]
  | 2, 2 =>
    have hc : c = c' := recv_number (c := c) (c' := c) hs
    subst hc
    rw [peer_inj c r r' hd]
  | 0, 1 => exact absurd hs (kind_ne_bar_send (c := c') (p := c))
  | 0, 2 => exact absurd hs (kind_ne_bar_recv (c := c') (p := c))
  | 1, 0 => exact absurd hs.symm (kind_ne_bar_send (c := c) (p := c'))
  | 2, 0 => exact absurd hs.symm (kind_ne_bar_recv (c := c) (p := c'))
  | 1, 2 => exact absurd hs (kind_ne_send_recv (c := c) (c' := c'))
  | 2, 1 => exact absurd hs.symm (kind_ne_send_recv (c := c') (c' := c))
/-- All tokens. -/
def allToks : Finset (GSem nD τ sig × ℕ × Fin 8) := Finset.univ.map ⟨tok, tok_inj⟩

/-- The launch element. -/
def u₀ : UU := (initOf (Pipeline.cells cfgs cellOf_inj) (Pipeline.launchToks cfgs cellOf_inj), initOf allCells allToks)

/-- A device's positions, -/
def positions (c : Dev nD) : sProp 𝕄 := bigSep Finset.univ fun k : Fin 17 => atPos ER (kcell (c, k)) 0 ∅ 0
/-- and all its tokens. -/
def allMine (c : Dev nD) : sProp 𝕄 := bigSep Finset.univ fun r : Fin 7 => toks (F := F) c r

/-- What the launch element deals device `c`; -/
def G (c : Dev nD) : sProp 𝕄 :=
  iprop((bigSep Finset.univ fun k : Fin 17 => roundState ER (xRd m ρ) (kcell (c, k)) 0)
    ∗ (bigSep Finset.univ fun k : Fin 17 => reached ER (kcell (c, k)) 0) ∗ positions c ∗ allMine c)
/-- what it holds once the cells' invariants stand. -/
def G' (c : Dev nD) : sProp 𝕄 := iprop(∃ K, ghost m ρ K c)

/-- A family over all cells, device by device, -/
theorem over_cells (Φ : GSem nD τ sig → sProp 𝕄) :
    bigSep allCells Φ = bigSep Finset.univ fun c : Dev nD => bigSep Finset.univ fun k : Fin 17 => Φ (kcell (c, k)) := by
  unfold allCells; rw [bigSep_map, bigSep_univ_prod]; rfl
/-- and the tokens likewise. -/
theorem over_toks : bigSep allToks (fun x => (dutyTok ER x.1 x.2.1 x.2.2 : sProp 𝕄)) = bigSep Finset.univ fun c : Dev nD => allMine c := by
  unfold allToks; rw [bigSep_map, bigSep_univ_prod]
  refine bigSep_congr fun c _ => ?_
  unfold allMine; rw [bigSep_univ_prod]
  refine bigSep_congr fun r _ => ?_
  unfold toks
  rw [bigSep_univ_eq_bigSepL [(0 : Fin 3), 1, 2] (by decide) (by decide)]
  rfl

/-- The launch element deals every device its share. -/
theorem fund_all : BI.own (ER (initOf allCells allToks)) ⊢ (|==> bigSep Finset.univ (G m ρ) : sProp 𝕄) := by
  iintro HX
  imod (Rounds.fund ER (xRd m ρ) allCells allToks) $$ HX with ⟨Hst, Hr, Hat, Htok⟩
  imodintro
  ihave Hst := (Entails.of_eq (over_cells fun g => roundState ER (xRd m ρ) g 0)) $$ Hst
  ihave Hr := (Entails.of_eq (over_cells (F := F) fun g => reached ER g 0)) $$ Hr
  ihave Hat := (Entails.of_eq (over_cells (F := F) fun g => atPos ER g 0 ∅ 0)) $$ Hat
  ihave Htok := (Entails.of_eq (over_toks (F := F))) $$ Htok
  unfold G positions; simp only [bigSep_sep']
  isplitl [Hst]; · iexact Hst
  isplitl [Hr]; · iexact Hr
  isplitl [Hat] <;> iassumption

/-! ## The semaphores -/

/-- The kernel's own semaphores: send and receive. -/
abbrev osem (k : Fin 16) : SemLoc sig := csem k.succ
/-- The send and receive semaphores are just the kernel's own. -/
theorem ownSemFacts : Pipeline.OwnSemFacts cfg0.spec osem := by decide

/-- The one semaphore that outlives the call is the barrier's. -/
theorem barrier_unscoped (c : Dev nD) : (unscopedSems0 c : sProp 𝕄) = semVal (barCell c) 0 := by
  unfold unscopedSems0; rw [bigSep_eq_bigSepL_of_eq [SemLoc.reg barS] (by decide) (by decide)]; rfl
/-- With the barrier's they are all the cells' semaphores. -/
theorem all_sems (c : Dev nD) : (bigSep Finset.univ fun k : Fin 17 => semVal (kcell (c, k)) 0 : sProp 𝕄)
    = iprop(unscopedSems0 c ∗ Pipeline.ownSems0 (Ix := Unit) (Name := ℕ) (U := UU) (Lvl := ℕ) (Val := Elt F) (τ := τ) osem c) := by
  rw [bigSep_univ_at _ (0 : Fin 17), barrier_unscoped, show (Finset.univ.erase 0 : Finset (Fin 17)) = Finset.univ.image Fin.succ from by decide,
    bigSep_image_of_injOn (fun _ _ _ _ h => Fin.succ_injective _ h)]
  rfl

/-- A device's invariants are allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (xRd m ρ) κ (kcell (c, k))))
          ∗ (bigSep Finset.univ fun k : Fin 17 => reached ER (kcell (c, k)) 0) ∗ positions c ∗ allMine c) := by
  unfold G
  iintro ⟨Hos, Hus, Hst, Hr, Hat, Htok⟩
  ihave Hv := (Entails.of_eq (all_sems (F := F) c).symm) $$ [Hos Hus]
  · isplitl [Hus] <;> iassumption
  imod (show iprop((bigSep Finset.univ fun k : Fin 17 => semVal (kcell (c, k)) 0) ∗ bigSep Finset.univ fun k : Fin 17 => roundState ER (xRd m ρ) (kcell (c, k)) 0)
      ⊢ (|={Set.univ}=> bigSep Finset.univ fun k => iprop(∃ κ : ℕ, cellInv ER (xRd m ρ) κ (kcell (c, k))) : sProp 𝕄) from by
        rw [← bigSep_sep']
        exact (bigSep_mono fun k _ => (Rounds.body_intro ER (xRd m ρ) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

/-- With the records known to all, each device's ghost state. -/
theorem ghost_intro (c : Dev nD) : iprop(records m ρ K ∗ (positions (F := F) c ∗ allMine c)) ⊢ G' m ρ c := by
  unfold G' ghost positions allMine
  iintro ⟨#HR, Hat, Htok⟩
  iexists K
  isplitr; · iexact HR
  isplitl [Hat] <;> iassumption

/-- The names are chosen once for all devices. -/
theorem regroup :
    (bigSep Finset.univ fun c : Dev nD => iprop((bigSep Finset.univ fun k => iprop(∃ κ : ℕ, cellInv ER (xRd m ρ) κ (kcell (c, k))))
          ∗ (bigSep Finset.univ fun k : Fin 17 => reached ER (kcell (c, k)) 0) ∗ positions c ∗ allMine c) : sProp 𝕄)
      ⊢ bigSep Finset.univ (G' m ρ) := by
  rw [bigSep_sep', bigSep_sep', ← bigSep_univ_prod (fun ck : Dev nD × Fin 17 => iprop(∃ κ : ℕ, cellInv ER (xRd m ρ) κ (kcell ck))),
    ← bigSep_univ_prod (fun ck : Dev nD × Fin 17 => (reached ER (kcell ck) 0 : sProp 𝕄))]
  iintro ⟨HI, #HR, Hmine⟩
  ihave HK := (BI.bigSep_exists_pi Finset.univ (fun (ck : Dev nD × Fin 17) (κ : ℕ) => (cellInv ER (xRd m ρ) κ (kcell ck) : sProp 𝕄))) $$ HI
  icases HK with ⟨%K, #HI⟩
  iapply ((sep_mono_left (BI.bigSep_of_persistent Finset.univ (records m ρ K))).trans
    ((Entails.of_eq (bigSep_sep' Finset.univ (fun _ : Dev nD => records m ρ K) (fun c => iprop(positions (F := F) c ∗ allMine c))).symm).trans
      (bigSep_mono fun c _ => ghost_intro m ρ K c)))
  isplitr
  · unfold records; isplitl; · iexact HI
    iexact HR
  iexact Hmine

/-- The launch's global step. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.ArgmaxRun

end
-- ==== Proof.Credit.lean ====
/-
# The launch credit

What all devices together owe a cell is what its owner waits for.
-/
module

public import proofs.«01_k».proof.Proof.Protocol

@[expose] public section

noncomputable section

namespace Cert.ArgmaxRun

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 17 → ℕ)

/-- Barrier cells are equal only on equal devices, -/
theorem bar_iff {a b : Dev nD} : barCell a = barCell b ↔ a = b :=
  ⟨fun h => congrArg (fun g : GSem nD τ sig => g.1.1) h, fun h => by rw [h]⟩
/-- receive cells only on equal devices and of equal numbers, -/
theorem recv_iff {a b : Dev nD} {s t : Fin 8} : recvCell a s = recvCell b t ↔ a = b ∧ s = t := by
  refine ⟨fun h => ⟨congrArg (fun g : GSem nD τ sig => g.1.1) h, ?_⟩, fun ⟨h, h'⟩ => by rw [h, h']⟩
  have h2 : SemLoc.dma (rcvS s) = (SemLoc.dma (rcvS t) : SemLoc sig) := congrArg (fun g : GSem nD τ sig => g.2) h
  have : (rcvS s).val = (rcvS t).val := congrArg Fin.val (SemLoc.dma.inj h2)
  exact Fin.ext (by change 10 + s.val = 10 + t.val at this; omega)
/-- and a barrier cell is never a receive cell. -/
theorem bar_ne_recv {a b : Dev nD} {s : Fin 8} : barCell a ≠ recvCell b s := fun h => by
  have h2 : (SemLoc.reg barS : SemLoc sig) = SemLoc.dma (rcvS s) := congrArg (fun g : GSem nD τ sig => g.2) h
  cases h2

/-- Copies owe barriers nothing. -/
theorem copies_bar (d c : Dev nD) (n : ℕ) : owedCopies d n (barCell c) () = 0 := by
  induction n with
  | zero => rfl
  | succ n ih =>
    rw [owedCopies, Pi.add_apply, Finsupp.add_apply, ih, tallyAt_apply, if_neg fun h => bar_ne_recv h.1]
/-- Signals owe receptions nothing. -/
theorem all_recv (d c : Dev nD) (s : Fin 8) (n : ℕ) : owedAll d n (recvCell c s) () = owedCopies d 7 (recvCell c s) () := by
  induction n with
  | zero => rfl
  | succ n ih =>
    rw [owedAll, Pi.add_apply, Finsupp.add_apply, ih, tallyAt_apply, if_neg fun h => bar_ne_recv h.1.symm, Nat.add_zero]

/-- How many of the first `n` turns, counted from the last, go from `d` to `c`. -/
def turns (d c : Dev nD) : ℕ → ℕ
  | 0 => 0
  | n + 1 => turns d c n + if c = peer d (6 - n) then 1 else 0
/-- All seven together: one, unless it is `d` itself. -/
theorem turns_all (d c : Dev nD) : turns d c 7 = if d = c then 0 else 1 := by revert d c; decide

/-- The signals `d` owes `c`'s barrier; -/
theorem owed_bar (d c : Dev nD) (n : ℕ) : owedAll d n (barCell c) () = turns d c n := by
  induction n with
  | zero => exact copies_bar d c 7
  | succ n ih =>
    rw [owedAll, turns, Pi.add_apply, Finsupp.add_apply, ih, tallyAt_apply]
    refine congrArg _ ?_
    by_cases h : c = peer d (6 - n)
    · rw [if_pos h, if_pos ⟨bar_iff.mpr h, rfl⟩]
    · rw [if_neg h, if_neg fun hh => h (bar_iff.mp hh.1)]
/-- the copies `d` owes `c`'s receive cell `s`: none unless `s` is `d`. -/
theorem owed_recv (d c : Dev nD) (s : Fin 8) (n : ℕ) : owedCopies d n (recvCell c s) () = if s = d then turns d c n * N else 0 := by
  induction n with
  | zero => show 0 = _; unfold turns; rw [Nat.zero_mul]; exact (ite_self _).symm
  | succ n ih =>
    rw [owedCopies, turns, Pi.add_apply, Finsupp.add_apply, ih, tallyAt_apply]
    by_cases hs : s = d
    · by_cases h : c = peer d (6 - n)
      · rw [if_pos hs, if_pos hs, if_pos h, if_pos ⟨recv_iff.mpr ⟨h, hs⟩, rfl⟩, Nat.add_mul, Nat.one_mul]
      · rw [if_pos hs, if_pos hs, if_neg h, if_neg fun hh => h (recv_iff.mp hh.1).1, Nat.add_zero, Nat.add_zero]
    · rw [if_neg hs, if_neg hs, if_neg fun hh => hs (recv_iff.mp hh.1).2]

/-- A barrier is owed seven in all, -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same]
  show ∑ d, owedAll d 7 (barCell c) () = 7
  rw [Finset.sum_congr rfl fun d _ => (owed_bar d c 7).trans (turns_all d c)]
  revert c; decide
/-- a receive cell one copy, from its peer. -/
theorem launch_recv (c : Dev nD) (s : Fin 8) (hs : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same]
  show ∑ d, owedAll d 7 (recvCell c s) () = N
  rw [Finset.sum_congr rfl fun d _ => (all_recv d c s 7).trans (owed_recv d c s 7), Finset.sum_ite_eq Finset.univ s fun d => turns d c 7 * N,
    if_pos (Finset.mem_univ _), turns_all, if_neg hs, Nat.one_mul]

/-- The credit a device starts with. -/
theorem creds (c : Dev nD) :
    (Pipeline.launchCred O₀ c : sProp 𝕄) ⊢ iprop(cred (tallyAt (barCell c) () 7) ∗ bigSep Finset.univ fun r : Fin 7 => cred (tallyAt (recvCell c (peer c r.val)) () N)) := by
  unfold Pipeline.launchCred
  rw [bigSep_univ_at _ (SemLoc.reg barS), launch_bar]
  refine sep_mono_right ?_
  refine (bigSep_subset (t := Finset.univ.image fun r : Fin 7 => (SemLoc.dma (rcvS (peer c r.val)) : SemLoc sig)) (fun x hx => ?_)).trans ?_
  · obtain ⟨r, -, rfl⟩ := Finset.mem_image.mp hx
    exact Finset.mem_erase.mpr ⟨(fun h => by cases h), Finset.mem_univ _⟩
  · rw [bigSep_image_of_injOn (fun r _ r' _ h => peer_inj c r r' (recv_iff.mp (congrArg (Prod.mk (c : Thread nD τ)) h)).2)]
    exact bigSep_mono fun r _ => Entails.of_eq (congrArg cred (launch_recv c (peer c r.val) (peer_ne c r)))

end Cert.ArgmaxRun

end
-- ==== Proof.Run.lean ====
/-
# The run

The program on all eight devices, from any memory: it ends, each device's result array holds that device's best of all
parts, the argument is as it was, and every semaphore counter is zero.
-/
module

public import proofs.«01_k».proof.Proof.Mint
public import proofs.«01_k».proof.Proof.Credit
public import Idealize.ShloMosaic.Lib.Quiescent
public import Idealize.ShloMosaic.Lib.Pipeline.CollectiveSegs

@[expose] public section

noncomputable section

namespace Cert.ArgmaxRun

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 17 → ℕ)

/-- Every array is owned whole. -/
theorem full_shares (c : Dev nD) (w : Fin cfg0.W) : (dats (F := F) m ρ 0 c).share w = fullShare := by unfold Dat.share; split <;> rfl

/-- What a device is dealt at launch is what the kernel starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G' recvCreds
  isplitl
  · isplitl [HG]; · iexact HG
    isplitl [H1]; · iexact H1
    isplitl [HN] <;> iassumption
  · iempintro

/-- With the call's own buffers that is the point's precondition, -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ pAll cAll
  iintro ⟨Hs, -, Hp, Hc⟩
  isplitl [Hs]; · iexact Hs
  isplitl [Hp] <;> iassumption

/-- and its postcondition gives the buffers back, and every semaphore at zero. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = leftOver c from rfl, scopedRest0_eq]
  unfold leftOver pAll cAll
  iintro ⟨Hp, Hc, HzS, HzV, HzB⟩
  ihave Hz := (Entails.of_eq ((bigSep_cells (fun k : Fin 17 => (semVal (kcell (c, k)) 0 : sProp 𝕄))).symm.trans (all_sems c))) $$ [HzS HzV HzB]
  · simp only [kcell_bar, kcell_send, kcell_recv]
    isplitl [HzB]; · iexact HzB
    isplitl [HzS] <;> iassumption
  icases Hz with ⟨Hu, Ho⟩
  isplitl [Hu]; · iexact Hu
  isplitl [Ho]; · iexact Ho
  isplitl [Hp] <;> iassumption

/-- The waits on staging copies are allowed. -/
theorem staging_waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What every array holds afterwards. -/
def AfterRun (r : PUnit × MemSt nD τ sig (Elt F)) : Prop :=
  ∀ c : Dev nD, ∀ w : Fin cfg0.W, r.2.mem ((cfg0.win w).arr.view.loc (c : Thread nD τ)) = (dats m ρ 0 c).arrAt w cfg0.N

set_option maxRecDepth 8000 in
/-- The whole run: every device ends, with its arrays as the point leaves them and every semaphore at zero. -/
theorem run_arrays : θ_run defs (onTc (τ := τ) (main (F := F))) (s₀ m ρ) (fun r => AfterRun m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_meets m ρ) (hne := fun w => by fin_cases w <;> exact Nat.succ_pos _) (harr := arr_whole0) (hstage := stage_whole0)
    (hshare := full_shares m ρ) (hdistinct := winFacts0.arr_inj)
    (O₀ := O₀) (howed₀ := fun _ => rfl) (howedN := fun _ => rfl)
    (L := L) (lv := lv) (hL := L_of_ne) (hwaits := staging_waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays read -/

/-- A window's one block is its whole array. -/
theorem block_in (i : S512x512.Idx) : (win0_0.blk (0 : Fin 1)).view.emb i = i :=
  funext fun a => Fin.ext (by show 0 * _ + 1 * (i a).val = (i a).val; omega)
/-- So too for the result. -/
theorem block_out (i : S2x512.Idx) : (win0_1.blk (0 : Fin 1)).view.emb i = i :=
  funext fun a => Fin.ext (by show 0 * _ + 1 * (i a).val = (i a).val; omega)

/-- The staged block is the argument array. -/
theorem xstg_eq (c : Dev nD) : xstg m ρ c = m ((c : Thread nD τ).loc main_arg0) :=
  funext fun i => congrArg (m ((c : Thread nD τ).loc main_arg0)) (block_in i)

/-- The result array is what the body staged. -/
theorem result_eq (c : Dev nD) : (dats m ρ 0 c).arrAt (1 : Fin 2) cfg0.N = outAt m ρ c := by
  have h : (win0_1.blk (0 : Fin 1)).view.read (Elt F) ((dats m ρ 0 c).arrAt (1 : Fin 2) cfg0.N) = outAt m ρ c := by
    rw [show cfg0.N = ((0 : Fin 1) : Fin cfg0.N).val + 1 from rfl, (dats m ρ 0 c).arrAt_succ (1 : Fin 2) (0 : Fin 1),
      if_pos (show (cfg0.win (1 : Fin 2)).flush (0 : Fin 1) = true from by decide)]
    exact View.read_write_univ _ _
  funext i
  exact (congrArg ((dats m ρ 0 c).arrAt (1 : Fin 2) cfg0.N) (block_out i)).symm.trans (congrFun h i)

/-- The program's run: each device's result, its argument, all counters. -/
theorem run_main : θ_run defs (onTc (τ := τ) (main (F := F))) ⟨m, fun _ => 0, ρ⟩ fun r =>
    (∀ c : Dev nD, r.2.mem ((c : Thread nD τ).loc main_v1) = outAt m ρ c
      ∧ r.2.mem ((c : Thread nD τ).loc main_arg0) = m ((c : Thread nD τ).loc main_arg0)) ∧ r.2.sem = fun _ => 0 :=
  (θ_run defs _ _).mono (fun _ h => ⟨fun c => ⟨(h.1 c (1 : Fin 2)).trans (result_eq m ρ c),
    (h.1 c (0 : Fin 2)).trans ((dats m ρ 0 c).arrAt_in (0 : Fin 2) rfl _)⟩, h.2⟩) (run_arrays m ρ)

end Cert.ArgmaxRun

end
-- ==== Proof.RefRun.lean ====
/-
# The reference's run

The reference is a straight line of array operations on one device.  Its result is written here as a function of its
argument, and its run read off the line.
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.ArgmaxRef

open Cert.ReferenceIdeal Cert.ReferenceIdeal.Gen
open Idealize.ShloMosaic Idealize.ShloMosaic.StableHlo Idealize.ShloMosaic.TcCoe Idealize.SL.Sem

variable {F : FTy → Type} [FloatOps F]

/-- The whole array. -/
abbrev Whole (F : FTy → Type) := Vec F S4096x512 .f32

/-- The pair the reference's reduction starts from: −∞ and 0, -/
def startVal : Vec F S_ .f32 := constant S_ .f32 0xFF800000#32
def startIdx : Vec F S_ .i32 := constantI S_ 32 0#32

/-- the index of each column's maximum, -/
def argmaxes (x : Whole F) : Vec F S512 .i32 := fun j =>
  (Host.argReduce reducer_argmax_f32_i32 x (iotaInDim S4096x512 32 0) startVal (startIdx (F := F)) reducesTo_S4096x512_S512_d0 h_S_ j).2
/-- each column's maximum, -/
def maxima (x : Whole F) : Vec F S512 .f32 := Host.reduce FloatOps.maximumf x startVal reducesTo_S4096x512_S512_d0 h_S_
/-- a row of 512 as a 1 × 512 array, -/
def asLine (v : Vec F S512 .f32) : Vec F S1x512 .f32 := broadcastInDim S1x512 ![1] bcast_S512_S1x512_1 v
/-- and two of them one above the other. -/
def over (a b : Vec F S1x512 .f32) : Vec F S2x512 .f32 :=
  concatenate S2x512 0 [⟨S1x512, a⟩, ⟨S1x512, b⟩] concatenates_S1x512_S1x512_S2x512_d0

/-- The reference's result: the maxima over the indices. -/
def answer (x : Whole F) : Vec F S2x512 .f32 := over (asLine (maxima x)) (asLine (sitofp .f32 (argmaxes x)))

/-- The reference's eleven operations, the five of the index search first. -/
abbrev steps : List (HloOp τ sig (Elt F)) :=
  [ TRef.nullary main_call0.v0 (iotaInDim S4096x512 32 0),
    TRef.nullary main_call0.cst (constant S_ .f32 0xFF800000#32),
    TRef.nullary main_call0.c (constantI S_ 32 0#32),
    TRef.quaternary (.of main_arg0) main_call0.v0 main_call0.cst main_call0.c main_call0.v1_0
      (fun x y u v j => (Host.argReduce reducer_argmax_f32_i32 x y u v reducesTo_S4096x512_S512_d0 h_S_ j).1),
    TRef.quaternary (.of main_arg0) main_call0.v0 main_call0.cst main_call0.c main_call0.v1_1
      (fun x y u v j => (Host.argReduce reducer_argmax_f32_i32 x y u v reducesTo_S4096x512_S512_d0 h_S_ j).2),
    unary main_v0 main_v1 (sitofp .f32),
    nullary main_cst (constant S_ .f32 0xFF800000#32),
    binary main_arg0 main_cst main_v2 (fun x v => Host.reduce FloatOps.maximumf x v reducesTo_S4096x512_S512_d0 h_S_),
    unary main_v2 main_v3 (broadcastInDim S1x512 ![1] bcast_S512_S1x512_1),
    unary main_v1 main_v4 (broadcastInDim S1x512 ![1] bcast_S512_S1x512_1),
    binary main_v3 main_v4 main_v5 over ]

/-- The reference is that line. -/
theorem main_line (c : Dev nD) : main (F := F) c = seq steps := by
  simp only [main, fn_argmax.body, seq, bind_assoc, pure_bind]
  rfl

/-- After the line the result buffer holds `answer` of the argument, -/
theorem after_result (V : Valuation τ sig (Elt F)) :
    after steps V (main_v5 : DevRef τ sig) = answer (V (main_arg0 : DevRef τ sig)) := by
  after_results_simp
  rfl

/-- and the argument is as it was. -/
theorem after_arg (V : Valuation τ sig (Elt F)) :
    after steps V (main_arg0 : DevRef τ sig) = V (main_arg0 : DevRef τ sig) := by
  simp only [after_cons, after_nil]
  rfl

/-- The reference has no buffer of a call's own, -/
theorem no_scoped_refs : (Finset.univ.filter fun b : Ref sig .tc => b.isScoped) = ∅ := by decide
/-- and no semaphore. -/
theorem no_scoped_sems : (Finset.univ.filter fun sm : SemLoc sig => sm.isScoped .tc) = ∅ := by decide

/-- Every step works on the device's own buffers. -/
theorem steps_within : (steps : List (HloOp τ sig (Elt F))).Forall fun op => op.bufs ⊆ tcRefs τ sig :=
  ⟨nullary_bufs_sub .., nullary_bufs_sub .., nullary_bufs_sub .., quaternary_bufs_sub .., quaternary_bufs_sub ..,
    unary_bufs_sub .., nullary_bufs_sub .., binary_bufs_sub .., unary_bufs_sub .., unary_bufs_sub .., binary_bufs_sub ..⟩

/-- The reference runs to its end: the result buffer holds `answer` of the argument, the argument is as it was, and every
    semaphore counter reads zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v5) = answer (m ((c.tc : Thread nD τ).loc main_arg0))
        ∧ r.2.mem ((c.tc : Thread nD τ).loc main_arg0) = m ((c.tc : Thread nD τ).loc main_arg0)) ∧ r.2.sem = fun _ => 0 :=
  (θ_run defs _ _).mono
    (fun r h => ⟨fun c => ⟨(h c main_v5).trans (after_result _), (h c main_arg0).trans (after_arg _)⟩,
      sem_eq_zero_of_no_sems (by decide) r.2⟩)
    (run_seq no_scoped_refs no_scoped_sems defs main (fun _ => steps) main_line (fun _ => steps_within) m ρ)

end Cert.ArgmaxRef

end
-- ==== Proof.Frames.lean ====
/-
# The frames

Each of the three programs runs to its end, leaves its argument as it was and every semaphore counter at zero.  The kernel
as printed and its idealization are the same text, so one run, over any floating-point values, serves both.
-/
module

public import proofs.«01_k».proof.Defs
public import proofs.«01_k».proof.Proof.Gen.Kernel
public import proofs.«01_k».proof.Proof.Run
public import proofs.«01_k».proof.Proof.RefRun

@[expose] public section

set_option maxRecDepth 65536

noncomputable section

namespace Cert.ArgmaxFrames

open Idealize.ShloMosaic Idealize.SL.Sem

/-- The idealized kernel's frame. -/
theorem frame_kernelIdeal : Cert.quiescent_KernelIdeal := fun m ρ _ =>
  (θ_run Cert.KernelIdeal.defs _ _).mono (fun _ h => ⟨fun c => (h.1 c).2, h.2⟩) (Cert.ArgmaxRun.run_main (F := Ideal) m ρ)

/-- The printed kernel's body table is its idealization's: one entry, the same text, -/
theorem body_table_same : Cert.Kernel.defs₀ (F := Bits) = Cert.KernelIdeal.defs₀ (F := Bits) := by
  refine congrArg Defs.onTc (a₁ := _) (a₂ := _) (funext fun ℓ => funext fun a => ?_)
  obtain ⟨_ | n, h⟩ := ℓ
  · rfl
  · exact absurd h (Nat.not_lt.2 (Nat.le_add_left _ _))

/-- and with it the table of the launch. -/
theorem table_same : Cert.Kernel.defs (F := Bits) = Cert.KernelIdeal.defs (F := Bits) :=
  congrArg (Pipeline.defs (Cert.KernelIdeal.pcfgs (F := Bits))) body_table_same

/-- The kernel's frame, by the same run read at bit patterns. -/
theorem frame_kernel : Cert.quiescent_Kernel := by
  intro m ρ _
  have h := (θ_run Cert.KernelIdeal.defs _ _).mono
    (Q' := fun r => (∀ c : Dev Cert.KernelIdeal.nD,
        r.2.mem (c.tc.loc Cert.KernelIdeal.main_arg0) = m (c.tc.loc Cert.KernelIdeal.main_arg0)) ∧ r.2.sem = fun _ => 0)
    (fun _ h => ⟨fun c => (h.1 c).2, h.2⟩) (Cert.ArgmaxRun.run_main (F := Bits) m ρ)
  rw [table_same]
  exact h

/-- The reference's frame. -/
theorem frame_referenceIdeal : Cert.quiescent_ReferenceIdeal := fun m ρ _ =>
  (θ_run Cert.ReferenceIdeal.defs _ _).mono (fun _ h => ⟨fun c => (h.1 c).2, h.2⟩) (Cert.ArgmaxRef.run_main (F := Ideal) m ρ)

end Cert.ArgmaxFrames

end
-- ==== Proof.Best.lean ====
/-
# The greatest value and its first place

A value and a place are the best of a column on a set of rows when the value is the column's greatest there and the place
is the first row of the set that attains it.  Such a pair is unique, two of them on two sets make the one on the union, and
the left folds that both programs compute find it.
-/
module

public import Mathlib.Data.EReal.Basic
public import Mathlib.Data.List.FinRange
public import Idealize.ShloMosaic.PureOps

@[expose] public section

namespace Cert.ArgmaxRun

open Idealize.ShloMosaic

/-- On the rows `S` of the column `f`, `v` is the greatest value and `k` the first row attaining it. -/
def Best (f : ℕ → EReal) (S : Set ℕ) (v : EReal) (k : ℕ) : Prop :=
  k ∈ S ∧ f k = v ∧ (∀ i ∈ S, f i ≤ v) ∧ ∀ i ∈ S, f i = v → k ≤ i

section Pairs
variable {f : ℕ → EReal} {S T : Set ℕ} {v v' : EReal} {k k' : ℕ}

/-- There is only one such pair. -/
theorem Best.unique (h : Best f S v k) (h' : Best f S v' k') : v = v' ∧ k = k' := by
  obtain ⟨hk, hv, hm, hf⟩ := h
  obtain ⟨hk', hv', hm', hf'⟩ := h'
  have e : v = v' := le_antisymm (hv ▸ hm' k hk) (hv' ▸ hm k' hk')
  subst e
  exact ⟨rfl, le_antisymm (hf k' hk' hv') (hf' k hk hv)⟩

/-- Of two sets' pairs, one that is greater, or equal and no later, is the union's. -/
theorem Best.keep (h : Best f S v k) (h' : Best f T v' k') (hn : v' < v ∨ v' = v ∧ k ≤ k') : Best f (S ∪ T) v k := by
  obtain ⟨hk, hv, hm, hf⟩ := h
  obtain ⟨hk', hv', hm', hf'⟩ := h'
  refine ⟨Or.inl hk, hv, fun i hi => hi.elim (hm i) fun hi => (hm' i hi).trans ?_, fun i hi e => hi.elim (fun hi => hf i hi e) fun hi => ?_⟩
  · exact hn.elim le_of_lt fun h => h.1.le
  · rcases hn with hn | ⟨e', hn⟩
    · exact absurd (e ▸ hm' i hi) (not_le.mpr hn)
    · exact hn.trans (hf' i hi (e.trans e'.symm))

/-- The same with the second set's pair the better one. -/
theorem Best.take (h : Best f S v k) (h' : Best f T v' k') (hn : v < v' ∨ v = v' ∧ k' ≤ k) : Best f (S ∪ T) v' k' :=
  Set.union_comm T S ▸ h'.keep h hn

/-- One row alone is its own best. -/
theorem Best.single (f : ℕ → EReal) (k : ℕ) : Best f {k} (f k) k :=
  ⟨rfl, rfl, fun _ h => h ▸ le_rfl, fun _ h _ => le_of_eq (Set.mem_singleton_iff.mp h).symm⟩

end Pairs

section Folds
variable {ι : Type}

/-- A left fold of the greater of two: its result is the start or some entry, and at least each of them. -/
theorem foldl_max (g : ι → EReal) (l : List ι) (a : EReal) :
    (l.foldl (fun r i => max r (g i)) a = a ∨ ∃ i ∈ l, l.foldl (fun r i => max r (g i)) a = g i)
      ∧ a ≤ l.foldl (fun r i => max r (g i)) a ∧ ∀ i ∈ l, g i ≤ l.foldl (fun r i => max r (g i)) a := by
  induction l generalizing a with
  | nil => exact ⟨Or.inl rfl, le_rfl, fun _ h => absurd h List.not_mem_nil⟩
  | cons b l ih =>
    obtain ⟨h1, h2, h3⟩ := ih (max a (g b))
    rw [List.foldl_cons]
    refine ⟨?_, (le_max_left _ _).trans h2, fun i hi => ?_⟩
    · rcases h1 with h1 | ⟨i, hi, h1⟩
      · rcases max_choice a (g b) with e | e
        · exact Or.inl (h1.trans e)
        · exact Or.inr ⟨b, List.mem_cons_self, h1.trans e⟩
      · exact Or.inr ⟨i, List.mem_cons_of_mem _ hi, h1⟩
    · rcases List.mem_cons.mp hi with rfl | hi
      · exact (le_max_right _ _).trans h2
      · exact h3 i hi

/-- The signed minimum of two words is one of them, and no greater than either. -/
theorem minsi_spec (x y : BitVec 32) :
    (IntOp.minsi x y = x ∨ IntOp.minsi x y = y) ∧ (IntOp.minsi x y).toInt ≤ x.toInt ∧ (IntOp.minsi x y).toInt ≤ y.toInt := by
  unfold IntOp.minsi
  by_cases h : x.slt y
  · rw [if_pos h]
    exact ⟨Or.inl rfl, le_rfl, (BitVec.slt_iff_toInt_lt.mp h).le⟩
  · rw [if_neg h]
    exact ⟨Or.inr rfl, not_lt.mp fun h' => h (BitVec.slt_iff_toInt_lt.mpr h'), le_rfl⟩

/-- A left fold of the signed minimum, likewise. -/
theorem foldl_minsi (g : ι → BitVec 32) (l : List ι) (a : BitVec 32) :
    (l.foldl (fun r i => IntOp.minsi r (g i)) a = a ∨ ∃ i ∈ l, l.foldl (fun r i => IntOp.minsi r (g i)) a = g i)
      ∧ (l.foldl (fun r i => IntOp.minsi r (g i)) a).toInt ≤ a.toInt
      ∧ ∀ i ∈ l, (l.foldl (fun r i => IntOp.minsi r (g i)) a).toInt ≤ (g i).toInt := by
  induction l generalizing a with
  | nil => exact ⟨Or.inl rfl, le_rfl, fun _ h => absurd h List.not_mem_nil⟩
  | cons b l ih =>
    obtain ⟨h1, h2, h3⟩ := ih (IntOp.minsi a (g b))
    obtain ⟨m1, m2, m3⟩ := minsi_spec a (g b)
    rw [List.foldl_cons]
    refine ⟨?_, h2.trans m2, fun i hi => ?_⟩
    · rcases h1 with h1 | ⟨i, hi, h1⟩
      · rcases m1 with e | e
        · exact Or.inl (h1.trans e)
        · exact Or.inr ⟨b, List.mem_cons_self, h1.trans e⟩
      · exact Or.inr ⟨i, List.mem_cons_of_mem _ hi, h1⟩
    · rcases List.mem_cons.mp hi with rfl | hi
      · exact h2.trans m3
      · exact h3 i hi

end Folds

/-- A small number's word reads back as the number. -/
theorem toInt_small (n : ℕ) (h : n ≤ 4096) : (BitVec.ofNat 32 n).toInt = n := by
  rw [BitVec.toInt_eq_toNat_cond, BitVec.toNat_ofNat, Nat.mod_eq_of_lt (by omega), if_pos (by omega)]

/-! ## A block's own part -/

section Block
variable (g : Fin 512 → EReal)

/-- A block's greatest value, from −∞ down the rows. -/
noncomputable def blockMax : EReal := (List.finRange 512).foldl (fun r i => max r (g i)) ⊥
/-- The block's first row attaining it: the least row number among those kept, the others counting as 512. -/
noncomputable def blockRow : BitVec 32 :=
  (List.finRange 512).foldl (fun r i => IntOp.minsi r (if g i = blockMax g then BitVec.ofNat 32 i.val else 512#32)) 2147483647#32

/-- The greatest value is attained. -/
theorem blockMax_attained : ∃ i, g i = blockMax g := by
  obtain ⟨h1, h2, h3⟩ := foldl_max g (List.finRange 512) ⊥
  rcases h1 with h1 | ⟨i, _, h1⟩
  · refine ⟨0, ?_⟩
    have h0 := h3 0 (List.mem_finRange _)
    rw [h1] at h0
    exact (le_bot_iff.mp h0).trans h1.symm
  · exact ⟨i, h1.symm⟩

/-- Every row's value is at most the greatest. -/
theorem le_blockMax (i : Fin 512) : g i ≤ blockMax g := (foldl_max g (List.finRange 512) ⊥).2.2 i (List.mem_finRange _)

/-- The row found is the first attaining one. -/
theorem blockRow_spec : ∃ k : Fin 512, blockRow g = BitVec.ofNat 32 k.val ∧ g k = blockMax g ∧ ∀ i, g i = blockMax g → k ≤ i := by
  obtain ⟨h1, -, h3⟩ := foldl_minsi (fun i : Fin 512 => if g i = blockMax g then BitVec.ofNat 32 i.val else 512#32)
    (List.finRange 512) 2147483647#32
  change (blockRow g = _ ∨ ∃ i ∈ _, blockRow g = _) at h1
  change ∀ i ∈ _, (blockRow g).toInt ≤ _ at h3
  have hle : ∀ i : Fin 512, g i = blockMax g → (blockRow g).toInt ≤ i.val := fun i hi => by
    have h := h3 i (List.mem_finRange _)
    rw [if_pos hi, toInt_small _ (by omega)] at h
    exact h
  obtain ⟨i₀, hi₀⟩ := blockMax_attained g
  have h0 := hle i₀ hi₀
  rcases h1 with h1 | ⟨k, _, h1⟩
  · rw [h1] at h0
    have : (2147483647#32 : BitVec 32).toInt = 2147483647 := by decide
    omega
  · by_cases hk : g k = blockMax g
    · rw [if_pos hk] at h1
      refine ⟨k, h1, hk, fun i hi => ?_⟩
      have h := hle i hi
      rw [h1, toInt_small _ (by omega)] at h
      exact Fin.le_def.mpr (by omega)
    · rw [if_neg hk] at h1
      rw [h1] at h0
      have : (512#32 : BitVec 32).toInt = 512 := by decide
      omega

/-- The rows of block `c`. -/
def blockRows (c : ℕ) : Set ℕ := {i | c * 512 ≤ i ∧ i < c * 512 + 512}

/-- Block `c`'s own part is the best of its rows, once its first row's number is added. -/
theorem block_best (f : ℕ → EReal) (c : Fin 8) (hg : ∀ i : Fin 512, g i = f (c.val * 512 + i.val)) :
    ∃ k : ℕ, Best f (blockRows c.val) (blockMax g) k
      ∧ (IntOp.addi (blockRow g) (IntOp.muli (BitVec.ofNat 32 c.val) 512#32)).toInt = k := by
  obtain ⟨k, hw, hk, hf⟩ := blockRow_spec g
  have row : ∀ i ∈ blockRows c.val, ∃ r : Fin 512, i = c.val * 512 + r.val := fun i hi =>
    ⟨⟨i - c.val * 512, by have := hi.1; have := hi.2; omega⟩, by have := hi.1; show i = _ + (i - _); omega⟩
  refine ⟨c.val * 512 + k.val, ⟨⟨by omega, by omega⟩, (hg k).symm.trans hk, fun i hi => ?_, fun i hi e => ?_⟩, ?_⟩
  · obtain ⟨r, rfl⟩ := row i hi
    exact hg r ▸ le_blockMax g r
  · obtain ⟨r, rfl⟩ := row i hi
    have := Fin.le_def.mp (hf r ((hg r).trans e))
    omega
  · rw [hw]
    have e : IntOp.addi (BitVec.ofNat 32 k.val) (IntOp.muli (BitVec.ofNat 32 c.val) 512#32)
        = BitVec.ofNat 32 (c.val * 512 + k.val) := by
      unfold IntOp.addi IntOp.muli
      rw [show (512#32 : BitVec 32) = BitVec.ofNat 32 512 from rfl, ← BitVec.ofNat_mul, ← BitVec.ofNat_add, Nat.add_comm]
    rw [e, toInt_small _ (by omega)]

end Block

end Cert.ArgmaxRun
-- ==== Proof.PartValue.lean ====
/-
# What one block computes

Column by column, over the extended reals: a device's own part is its block's greatest value and the first row attaining
it, numbered from the top of the whole array.
-/
module

public import proofs.«01_k».proof.Proof.Best
public import proofs.«01_k».proof.Proof.Fold
public import Idealize.ShloMosaic.PureOps.Ideal.Laws
public import Idealize.ShloMosaic.Lib.Pipeline.Value

@[expose] public section

noncomputable section

namespace Cert.ArgmaxRun

open Cert.KernelIdeal Cert.KernelIdeal.Gen
open Idealize.ShloMosaic Idealize.ShloMosaic.ValueIdx

/-- The pattern that starts a maximum denotes −∞. -/
theorem start_bot : Ideal.ofBits .f32 0xFF800000#32 = ⊥ := by simp [Ideal.ofBits, Ideal.ieee]

/-- A row and a column, named either way, are the same index. -/
theorem pair_ix2 {a b : ℕ} (r : Fin a) (j : Fin b) : (Shape.pair (d := ![a, b]) r j) = ix2 r j :=
  funext fun x => by fin_cases x <;> rfl

/-- A device's number, as the kernel computes it. -/
theorem devWord_eq (c : Dev nD) : devWord c = BitVec.ofNat 32 c.val := by
  revert c; decide

section Column
variable (x : Vec Ideal S512x512 .f32) (j : Fin 512)

/-- Column `j` of a block. -/
def column : Fin 512 → EReal := fun i => x (ix2 i j)

/-- The kernel's maximum of a column is the block's greatest value there. -/
theorem val_at : k0_pay2 x (ix2 (0 : Fin 1) j) = blockMax (column x j) := by
  unfold k0_pay2 k0_pay1
  dsimp only
  rw [shapeCast_a_1a_apply, shapeCast_self]
  refine (reduceFold_rows reduces_S512x512_S512 max (Ideal.ofBits .f32 0xFF800000#32) x (ix1 j)).trans ?_
  rw [start_bot]
  exact congrArg (fun g : Fin 512 → EReal => (List.finRange 512).foldl (fun r i => max r (g i)) ⊥)
    (funext fun i => congrArg x (pair_ix2 i j))

/-- The rows the kernel's index search keeps: those attaining the maximum, the others counting as 512. -/
def kept : IVec S512x512 32 :=
  select (cmpf .oeq (k0_pay1 x) (broadcastTo S512x512 (k0_pay2 x) broadcasts_S1x512_S512x512))
    (iota .tc S512x512 32 [0] iota_S512x512_d0_w32) (broadcast S512x512 512#32)

/-- A row's entry there: its number if it attains the maximum, else 512. -/
theorem kept_at (i : Fin 512) :
    kept x (ix2 i j) = if column x j i = blockMax (column x j) then BitVec.ofNat 32 i.val else 512#32 := by
  show Scalar.select (Ideal.cmp .oeq (k0_pay1 x (ix2 i j)) (broadcastTo S512x512 (k0_pay2 x) broadcasts_S1x512_S512x512 (ix2 i j)))
    (iota .tc S512x512 32 [0] iota_S512x512_d0_w32 (ix2 i j)) 512#32 = _
  rw [broadcastTo_1b_ab_apply, val_at, iota_single_apply, show k0_pay1 x = x from shapeCast_self x _]
  show (if BitVec.ofBool (decide (x (ix2 i j) = blockMax (column x j))) = 1#1 then _ else _) = _
  by_cases h : column x j i = blockMax (column x j)
  · rw [if_pos h, if_pos (by rw [decide_eq_true (p := x (ix2 i j) = _) h]; rfl)]
  · rw [if_neg h, if_neg (by rw [decide_eq_false (p := x (ix2 i j) = _) h]; decide)]

/-- The kernel's index of a column, as a number: the block's row found there, past the rows of the blocks before. -/
theorem idx_at (c : Dev nD) : k0_pay3 (devWord c) x (ix2 (0 : Fin 1) j)
    = (((IntOp.addi (blockRow (column x j)) (IntOp.muli (BitVec.ofNat 32 c.val) 512#32)).toInt : ℝ) : EReal) := by
  unfold k0_pay3
  dsimp only
  rw [devWord_eq]
  refine congrArg (fun w : BitVec 32 => (((IntOp.addi w (IntOp.muli (BitVec.ofNat 32 c.val) 512#32)).toInt : ℝ) : EReal)) ?_
  rw [shapeCast_a_1a_apply]
  refine (reduceFold_rows reduces_S512x512_S512 IntOp.minsi 2147483647#32 (kept x) (ix1 j)).trans ?_
  exact congrArg (fun g : Fin 512 → BitVec 32 => (List.finRange 512).foldl (fun r i => IntOp.minsi r (g i)) 2147483647#32)
    (funext fun i => (congrArg (kept x) (pair_ix2 i j)).trans (kept_at x j i))

end Column

/-! ## The two rows of a part, read -/

/-- Row `k` of a part, read. -/
theorem asRow_at (q : Vec Ideal S2x512 .f32) (k : Fin 2) (j : Fin 512) : asRow q k (ix2 (0 : Fin 1) j) = q (ix2 k j) := by
  unfold asRow
  rw [shapeCast_1ab_ab_apply]
  rfl

variable (m : (ℓ : Loc nD τ sig) → Buf (Elt Ideal) ℓ) (ρ : Dev nD → PrngReg)

/-- Row 0 of a device's part is its block's greatest values, -/
theorem part_val (c : Dev nD) (j : Fin 512) : asRow (part m ρ c) 0 (ix2 (0 : Fin 1) j) = blockMax (column (xstg m ρ c) j) := by
  rw [asRow_at]
  show k0_pay4 (xstg m ρ c) (ix2 (0 : Fin 1) j) = _
  unfold k0_pay4
  rw [shapeCast_self, val_at]

/-- and row 1 their rows' numbers. -/
theorem part_idx (c : Dev nD) (j : Fin 512) : asRow (part m ρ c) 1 (ix2 (0 : Fin 1) j)
    = (((IntOp.addi (blockRow (column (xstg m ρ c) j)) (IntOp.muli (BitVec.ofNat 32 c.val) 512#32)).toInt : ℝ) : EReal) := by
  rw [asRow_at]
  show k0_pay5 (devWord c) (xstg m ρ c) (ix2 (0 : Fin 1) j) = _
  unfold k0_pay5
  rw [shapeCast_self, idx_at]

end Cert.ArgmaxRun

end
-- ==== Proof.BestValue.lean ====
/-
# What the result array holds

The running best of each column, over the extended reals, is the best of the rows of the blocks taken in so far; after the
seven peers, of all 4096 rows.
-/
module

public import proofs.«01_k».proof.Proof.PartValue

@[expose] public section

noncomputable section

namespace Cert.ArgmaxRun

open Cert.KernelIdeal Cert.KernelIdeal.Gen
open Idealize.ShloMosaic Idealize.ShloMosaic.ValueIdx

/-- Two rows have, in column `j`, the value `v` and the number `k`. -/
def Reads (a b : FVec Ideal S1x512 .f32) (j : Fin 512) (v : EReal) (k : ℕ) : Prop :=
  a (ix2 (0 : Fin 1) j) = v ∧ b (ix2 (0 : Fin 1) j) = (((k : ℕ) : ℝ) : EReal)

/-- Numbers compare as they do on the extended reals. -/
theorem num_lt (k k' : ℕ) : (((k : ℕ) : ℝ) : EReal) < (((k' : ℕ) : ℝ) : EReal) ↔ k < k' := by
  rw [EReal.coe_lt_coe_iff, Nat.cast_lt]

/-- The kernel's test of a received pair: greater, or equal with a smaller number. -/
theorem beats_iff (v v' a a' : EReal) :
    IntOp.ori (Ideal.cmp .ogt v' v) (IntOp.andi (Ideal.cmp .oeq v' v) (Ideal.cmp .olt a' a)) = 1#1 ↔ v < v' ∨ v' = v ∧ a' < a := by
  unfold Ideal.cmp IntOp.ori IntOp.andi
  by_cases h1 : v < v' <;> by_cases h2 : v' = v <;> by_cases h3 : a' < a <;> simp [h1, h2, h3]

/-- Taking in a part: the better of the two pairs, which is the best of both sets of rows. -/
theorem meet_best {f : ℕ → EReal} {S T : Set ℕ} {v v' : EReal} {k k' : ℕ} {j : Fin 512}
    {b : FVec Ideal S1x512 .f32 × FVec Ideal S1x512 .f32} {q : Vec Ideal S2x512 .f32}
    (hb : Best f S v k) (hr : Reads b.1 b.2 j v k) (hq : Best f T v' k') (hs : Reads (asRow q 0) (asRow q 1) j v' k') :
    ∃ v'' k'', Best f (S ∪ T) v'' k'' ∧ Reads (meet b q).1 (meet b q).2 j v'' k'' := by
  obtain ⟨r1, r2⟩ := hr
  obtain ⟨s1, s2⟩ := hs
  have e1 : (meet b q).1 (ix2 (0 : Fin 1) j) = if (beats q b (ix2 (0 : Fin 1) j)) = 1#1 then v' else v := by
    rw [← s1, ← r1]; rfl
  have e2 : (meet b q).2 (ix2 (0 : Fin 1) j)
      = if (beats q b (ix2 (0 : Fin 1) j)) = 1#1 then (((k' : ℕ) : ℝ) : EReal) else (((k : ℕ) : ℝ) : EReal) := by
    rw [← s2, ← r2]; rfl
  have ht : beats q b (ix2 (0 : Fin 1) j) = 1#1 ↔ v < v' ∨ v' = v ∧ k' < k := by
    rw [← num_lt, ← beats_iff, ← s1, ← s2, ← r1, ← r2]; rfl
  by_cases h : beats q b (ix2 (0 : Fin 1) j) = 1#1
  · rw [if_pos h] at e1 e2
    exact ⟨v', k', hb.take hq ((ht.mp h).imp id fun h => ⟨h.1.symm, h.2.le⟩), e1, e2⟩
  · rw [if_neg h] at e1 e2
    refine ⟨v, k, hb.keep hq ?_, e1, e2⟩
    rw [ht, not_or, not_and] at h
    rcases lt_or_eq_of_le (not_lt.mp h.1) with h' | h'
    · exact Or.inl h'
    · exact Or.inr ⟨h', not_lt.mp (h.2 h')⟩

/-- The rows of the blocks of device `c` and its first `n` peers. -/
def rowsUpTo (c : Dev nD) : ℕ → Set ℕ
  | 0 => blockRows c.val
  | n + 1 => rowsUpTo c n ∪ blockRows (peer c n).val

/-- A device's own rows are among those seen, -/
theorem own_rows (c : Dev nD) (n : ℕ) : blockRows c.val ⊆ rowsUpTo c n := by
  induction n with
  | zero => exact fun _ h => h
  | succ n ih => exact fun _ h => Or.inl (ih h)

/-- and so are those of each peer met. -/
theorem peer_rows (c : Dev nD) (n r : ℕ) (h : r < n) : blockRows (peer c r).val ⊆ rowsUpTo c n := by
  induction n with
  | zero => exact absurd h (Nat.not_lt_zero _)
  | succ n ih =>
    rcases Nat.lt_succ_iff_lt_or_eq.mp h with h | rfl
    · exact fun _ hi => Or.inl (ih h hi)
    · exact fun _ hi => Or.inr hi

/-- Every row seen is a row of the whole array. -/
theorem rows_bound (c : Dev nD) (n i : ℕ) (h : i ∈ rowsUpTo c n) : i < 4096 := by
  have hb : ∀ d : Fin 8, i ∈ blockRows d.val → i < 4096 := fun d hd => by
    have := hd.2; have := d.isLt; omega
  induction n with
  | zero => exact hb c h
  | succ n ih => exact h.elim ih (hb _)

/-- With the seven peers those are all the rows. -/
theorem rows_all (c : Dev nD) : rowsUpTo c 7 = {i | i < 4096} := by
  refine Set.Subset.antisymm (fun i h => rows_bound c 7 i h) fun i hi => ?_
  have hi : i < 4096 := hi
  have hm : i ∈ blockRows (i / 512) := ⟨by omega, by omega⟩
  by_cases hd : (⟨i / 512, by omega⟩ : Fin 8) = c
  · exact own_rows c 7 (by rw [← hd]; exact hm)
  · have h : (⟨i / 512, by omega⟩ : Fin 8) ∈ Finset.univ.erase c := Finset.mem_erase.mpr ⟨hd, Finset.mem_univ _⟩
    rw [erase_eq_peers] at h
    obtain ⟨r, -, hr⟩ := Finset.mem_image.mp h
    exact peer_rows c 7 r.val r.isLt (by rw [hr]; exact hm)

variable (m : (ℓ : Loc nD τ sig) → Buf (Elt Ideal) ℓ) (ρ : Dev nD → PrngReg)

/-- The upper of two stacked rows, -/
theorem stack2_top (a b : Vec Ideal S1x512 .f32) (j : Fin 512) : stack2 a b (ix2 (0 : Fin 2) j) = a (ix2 (0 : Fin 1) j) := rfl
/-- and the lower. -/
theorem stack2_bottom (a b : Vec Ideal S1x512 .f32) (j : Fin 512) : stack2 a b (ix2 (1 : Fin 2) j) = b (ix2 (0 : Fin 1) j) := rfl

section Col
variable (f : ℕ → EReal) (j : Fin 512) (hf : ∀ (c : Dev nD) (i : Fin 512), column (xstg m ρ c) j i = f (c.val * 512 + i.val))
include hf

/-- A device's own part is the best of its block. -/
theorem part_best (c : Dev nD) :
    ∃ v k, Best f (blockRows c.val) v k ∧ Reads (asRow (part m ρ c) 0) (asRow (part m ρ c) 1) j v k := by
  obtain ⟨k, hk, he⟩ := block_best (column (xstg m ρ c) j) f c (hf c)
  refine ⟨_, k, hk, part_val m ρ c j, (part_idx m ρ c j).trans ?_⟩
  rw [he, Int.cast_natCast]

/-- The running best is the best of the blocks taken in. -/
theorem running_best (c : Dev nD) (n : ℕ) : ∃ v k, Best f (rowsUpTo c n) v k ∧ Reads (bestAt m ρ c n).1 (bestAt m ρ c n).2 j v k := by
  induction n with
  | zero =>
    obtain ⟨k, hk, he⟩ := block_best (column (xstg m ρ c) j) f c (hf c)
    refine ⟨_, k, hk, ?_, ?_⟩
    · rw [← stage0_val]; exact val_at (xstg m ρ c) j
    · rw [← stage0_idx]
      refine (idx_at (xstg m ρ c) j c).trans ?_
      rw [he, Int.cast_natCast]
  | succ n ih =>
    obtain ⟨v, k, hb, hr⟩ := ih
    obtain ⟨v', k', hq, hs⟩ := part_best m ρ f j hf (peer c n)
    rw [bestAt]
    exact meet_best hb hr hq hs

/-- So the result's column `j` is the best of the whole array's. -/
theorem out_best (c : Dev nD) : ∃ v k, Best f {i | i < 4096} v k
    ∧ outAt m ρ c (ix2 (0 : Fin 2) j) = v ∧ outAt m ρ c (ix2 (1 : Fin 2) j) = (((k : ℕ) : ℝ) : EReal) := by
  obtain ⟨v, k, hb, h1, h2⟩ := running_best m ρ f j hf c 7
  rw [rows_all] at hb
  refine ⟨v, k, hb, ?_, ?_⟩
  · unfold outAt; rw [stack2_top]; exact h1
  · unfold outAt; rw [stack2_bottom]; exact h2

end Col

end Cert.ArgmaxRun

end
-- ==== Proof.RefValue.lean ====
/-
# What the reference computes

Over the extended reals the reference's search down a column keeps the best of the rows seen so far, so each column of its
result is the best of the column's 4096 rows.
-/
module

public import proofs.«01_k».proof.Proof.Best
public import proofs.«01_k».proof.Proof.PartValue
public import proofs.«01_k».proof.Proof.RefRun
public import Idealize.ShloMosaic.PureOps.Ideal.Laws
public import Idealize.ShloMosaic.Lib.Pipeline.Value

@[expose] public section

noncomputable section

namespace Cert.ArgmaxRef

open Cert.ReferenceIdeal Cert.ReferenceIdeal.Gen Cert.ArgmaxRun
open Idealize.ShloMosaic Idealize.ShloMosaic.ValueIdx

/-- One step of the search: the pair held and the pair of the next row. -/
abbrev better : EReal × BitVec 32 → EReal × BitVec 32 → EReal × BitVec 32 := reducer_argmax_f32_i32 (F := Ideal)

/-- A step, spelt out: the held value stays where it is greater, the held row where it is greater or equal and earlier. -/
theorem better_eq (a b : EReal × BitVec 32) :
    better a b = (if b.1 < a.1 then a.1 else b.1, if b.1 < a.1 ∨ a.1 = b.1 ∧ a.2.slt b.2 = true then a.2 else b.2) := by
  show (Scalar.select (IntOp.ori (Ideal.cmp .ogt a.1 b.1) (Ideal.cmp .une a.1 a.1)) a.1 b.1,
    Scalar.select (IntOp.ori (IntOp.ori (Ideal.cmp .ogt a.1 b.1) (Ideal.cmp .une a.1 a.1))
      (IntOp.andi (Ideal.cmp .oeq a.1 b.1) (IntOp.cmpi .slt a.2 b.2))) a.2 b.2) = _
  unfold Ideal.cmp IntOp.ori IntOp.andi IntOp.cmpi Scalar.select
  by_cases h1 : b.1 < a.1 <;> by_cases h2 : a.1 = b.1 <;> by_cases h3 : a.2.slt b.2 = true <;> simp [h1, h2, h3]

section Column
variable (f : ℕ → EReal)

/-- The search over the first `n` rows, from −∞ and row 0. -/
def search (n : ℕ) : EReal × BitVec 32 :=
  (List.finRange n).foldl (fun r i => better r (f i.val, BitVec.ofNat 32 i.val)) (⊥, 0#32)

/-- One more row is one more step. -/
theorem search_succ (n : ℕ) : search f (n + 1) = better (search f n) (f n, BitVec.ofNat 32 n) := by
  unfold search
  rw [List.finRange_succ_last, List.foldl_append, List.foldl_map]
  rfl

/-- No rows: the starting pair. -/
theorem search_zero : search f 0 = (⊥, 0#32) := rfl

/-- After at least one row the search holds the best of the rows seen. -/
theorem search_best (n : ℕ) (hn : n < 4096) :
    ∃ k, Best f {i | i < n + 1} (search f (n + 1)).1 k ∧ (search f (n + 1)).2 = BitVec.ofNat 32 k := by
  induction n with
  | zero =>
    refine ⟨0, ?_, ?_⟩
    · rw [search_succ, search_zero, better_eq]
      dsimp only
      rw [if_neg not_lt_bot]
      have e : ({i | i < 0 + 1} : Set ℕ) = {0} := by ext i; simp
      rw [e]
      exact Best.single f 0
    · rw [search_succ, search_zero, better_eq]
      exact ite_self _
  | succ n ih =>
    obtain ⟨k, hb, hk⟩ := ih (by omega)
    have e : ({i | i < n + 1 + 1} : Set ℕ) = {i | i < n + 1} ∪ {n + 1} := by
      ext i; simp only [Set.mem_setOf_eq, Set.mem_union, Set.mem_singleton_iff]; omega
    have hlt : k < n + 1 := hb.1
    have hs : (search f (n + 1)).2.slt (BitVec.ofNat 32 (n + 1)) = true := by
      rw [hk, BitVec.slt_iff_toInt_lt, toInt_small _ (by omega), toInt_small _ (by omega)]
      exact_mod_cast hlt
    rw [search_succ, better_eq, e]
    dsimp only
    rcases lt_trichotomy (f (n + 1)) (search f (n + 1)).1 with h | h | h
    · rw [if_pos h, if_pos (Or.inl h)]
      exact ⟨k, hb.keep (Best.single f (n + 1)) (Or.inl h), hk⟩
    · rw [if_neg (by rw [h]; exact lt_irrefl _), if_pos (Or.inr ⟨h.symm, hs⟩), h]
      exact ⟨k, hb.keep (Best.single f (n + 1)) (Or.inr ⟨h, hlt.le⟩), hk⟩
    · rw [if_neg h.not_gt, if_neg (by rintro (h' | ⟨h', -⟩); exacts [h.not_gt h', absurd h' h.ne])]
      exact ⟨n + 1, hb.take (Best.single f (n + 1)) (Or.inl h), rfl⟩

/-- The greatest value found by itself is the search's. -/
theorem max_eq_search : (List.finRange 4096).foldl (fun (r : EReal) (i : Fin 4096) => max r (f i.val)) ⊥ = (search f 4096).1 := by
  obtain ⟨k, ⟨hk, hv, hm, -⟩, -⟩ := search_best f 4095 (by omega)
  obtain ⟨h1, -, h3⟩ := foldl_max (fun i : Fin 4096 => f i.val) (List.finRange 4096) ⊥
  refine le_antisymm ?_ ?_
  · rcases h1 with h1 | ⟨i, -, h1⟩
    · rw [h1]; exact bot_le
    · rw [h1]; exact hm i.val i.isLt
  · rw [← hv]; exact h3 ⟨k, hk⟩ (List.mem_finRange _)

end Column

section Array
variable (X : Whole Ideal) (j : Fin 512)

/-- Column `j` of the whole array, by row number. -/
def wholeColumn : ℕ → EReal := fun i => if h : i < 4096 then X (ix2 ⟨i, h⟩ j) else ⊥

/-- Inside the array the column reads the array. -/
theorem wholeColumn_at (i : Fin 4096) : wholeColumn X j i.val = X (ix2 i j) := dif_pos i.isLt

/-- Leaving out the rows of the whole array leaves its columns. -/
theorem reduces_whole : S4096x512.Reduces [0] S512 := by decide

/-- The greatest value of column `j` is the one its search holds. -/
theorem maxima_at : maxima X (ix1 j) = (search (wholeColumn X j) 4096).1 := by
  refine (reduceFold_rows reduces_whole max (Ideal.ofBits .f32 0xFF800000#32) X (ix1 j)).trans ?_
  rw [start_bot, ← max_eq_search]
  exact congrArg (fun g : Fin 4096 → EReal => (List.finRange 4096).foldl (fun r i => max r (g i)) ⊥)
    (funext fun i => (congrArg X (pair_ix2 i j)).trans (wholeColumn_at X j i).symm)

/-- The row found for column `j` is the one its search holds. -/
theorem argmaxes_at : argmaxes X (ix1 j) = (search (wholeColumn X j) 4096).2 := by
  unfold argmaxes
  rw [Ideal.argReduce_eq_reduce2]
  refine congrArg Prod.snd (a₁ := _) (a₂ := search (wholeColumn X j) 4096) ?_
  refine (reduceFold_rows reduces_whole better (Ideal.ofBits .f32 0xFF800000#32, 0#32)
    (fun i => (X i, iotaInDim S4096x512 32 0 i)) (ix1 j)).trans ?_
  rw [start_bot]
  exact congrArg (fun g : Fin 4096 → EReal × BitVec 32 => (List.finRange 4096).foldl (fun r i => better r (g i)) (⊥, 0#32))
    (funext fun i => Prod.ext ((congrArg X (pair_ix2 i j)).trans (wholeColumn_at X j i).symm) rfl)

/-- A vector laid out as one line reads the same. -/
theorem asLine_at (v : Vec Ideal S512 .f32) : asLine v (ix2 (0 : Fin 1) j) = v (ix1 j) := by
  unfold asLine
  exact broadcastInDim_apply _ _ v _ (ix1 j) fun a => by fin_cases a; rfl

/-- The upper of two stacked lines. -/
theorem over_top (a b : Vec Ideal S1x512 .f32) : over a b (ix2 (0 : Fin 2) j) = a (ix2 (0 : Fin 1) j) := by
  unfold over
  exact concatenate_pair_apply_left (0 : Fin S2x512.rank) a b _ _ rfl _ fun c => by fin_cases c <;> rfl

/-- The lower of two stacked lines. -/
theorem over_bottom (a b : Vec Ideal S1x512 .f32) : over a b (ix2 (1 : Fin 2) j) = b (ix2 (0 : Fin 1) j) := by
  unfold over
  exact concatenate_pair_apply_right (0 : Fin S2x512.rank) a b _ _ rfl rfl _
    (fun c hc => by fin_cases c; exacts [absurd rfl hc, rfl]) rfl

/-- Column `j` of the reference's result is the best of the whole array's. -/
theorem answer_best : ∃ v k, Best (wholeColumn X j) {i | i < 4096} v k
    ∧ answer X (ix2 (0 : Fin 2) j) = v ∧ answer X (ix2 (1 : Fin 2) j) = (((k : ℕ) : ℝ) : EReal) := by
  obtain ⟨k, hb, hk⟩ := search_best (wholeColumn X j) 4095 (by omega)
  have hlt : k < 4096 := hb.1
  refine ⟨_, k, hb, ?_, ?_⟩
  · unfold answer
    rw [over_top, asLine_at, maxima_at]
  · unfold answer
    rw [over_bottom, asLine_at]
    show (((argmaxes X (ix1 j)).toInt : ℝ) : EReal) = _
    rw [argmaxes_at, hk, toInt_small _ (by omega), Int.cast_natCast]

end Array

end Cert.ArgmaxRef

end
-- ==== Proof.Equation.lean ====
/-
# The equation

Device `c` holds rows `512 c` to `512 c + 511` of the whole array, so its rows' best and the reference's are the best of
the same column, of which there is only one: every device ends with the reference's result.
-/
module

public import proofs.«01_k».proof.Proof.BestValue
public import proofs.«01_k».proof.Proof.RefValue
public import proofs.«01_k».proof.Proof.Run

@[expose] public section

noncomputable section

namespace Cert.ArgmaxEquation

open Idealize.ShloMosaic Idealize.ShloMosaic.ValueIdx Idealize.SL.Sem
open Cert.ArgmaxRun Cert.ArgmaxRef

/-- Row `i` of device `c`'s block is row `512 c + i` of the whole array. -/
theorem block_row (X : Whole Ideal) (h : Layout.Tiles ⟨2, ![512, 512]⟩ ⟨2, ![4096, 512]⟩ 0 8) (c : Fin 8) (i j : Fin 512) :
    Layout.block ⟨2, ![512, 512]⟩ ⟨2, ![4096, 512]⟩ 0 8 c X h (ix2 i j) = wholeColumn X j (c.val * 512 + i.val) := by
  have hlt : c.val * 512 + i.val < 4096 := by omega
  rw [Layout.block_apply, wholeColumn, dif_pos hlt]
  refine congrArg X (funext fun a => Fin.ext ?_)
  rw [Layout.Tiles.idx_val]
  fin_cases a <;> rfl

/-- A 2 × 512 array is known by its two lines. -/
theorem two_lines {x y : (⟨2, ![2, 512]⟩ : Shape).Idx → EReal} (h0 : ∀ j : Fin 512, x (ix2 (0 : Fin 2) j) = y (ix2 (0 : Fin 2) j))
    (h1 : ∀ j : Fin 512, x (ix2 (1 : Fin 2) j) = y (ix2 (1 : Fin 2) j)) : x = y := by
  funext i
  have e : i = ix2 (i 0) (i 1) := by
    funext a; fin_cases a <;> rfl
  rw [e]
  generalize i 0 = r
  generalize i 1 = j
  revert r j
  intro (r : Fin 2) (j : Fin 512)
  fin_cases r
  exacts [h0 j, h1 j]

/-- Where every device's argument is its block of the whole array, every device's result is the reference's. -/
theorem out_eq (m : (ℓ : Loc Cert.KernelIdeal.nD Cert.KernelIdeal.τ Cert.KernelIdeal.sig) → Buf (Elt Ideal) ℓ)
    (g : Dev Cert.KernelIdeal.nD → PrngReg) (X : Whole Ideal)
    (h : Layout.Tiles ⟨2, ![512, 512]⟩ ⟨2, ![4096, 512]⟩ 0 8)
    (hm : ∀ c : Dev Cert.KernelIdeal.nD, m ((c.tc : Thread Cert.KernelIdeal.nD Cert.KernelIdeal.τ).loc Cert.KernelIdeal.main_arg0)
      = Layout.block ⟨2, ![512, 512]⟩ ⟨2, ![4096, 512]⟩ 0 8 c X h) (c : Dev Cert.KernelIdeal.nD) :
    outAt m g c = answer X := by
  have hf : ∀ (j : Fin 512) (c : Dev Cert.KernelIdeal.nD) (i : Fin 512),
      column (xstg m g c) j i = wholeColumn X j (c.val * 512 + i.val) := fun j c i =>
    (congrFun ((xstg_eq m g c).trans (hm c)) (ix2 i j)).trans (block_row X h c i j)
  have key : ∀ j : Fin 512, outAt m g c (ix2 (0 : Fin 2) j) = answer X (ix2 (0 : Fin 2) j)
      ∧ outAt m g c (ix2 (1 : Fin 2) j) = answer X (ix2 (1 : Fin 2) j) := by
    intro j
    obtain ⟨v, k, hb, e0, e1⟩ := out_best m g (wholeColumn X j) j (hf j) c
    obtain ⟨v', k', hb', e0', e1'⟩ := answer_best X j
    obtain ⟨hv, hk⟩ := hb.unique hb'
    exact ⟨e0.trans (hv.trans e0'.symm), e1.trans ((congrArg (fun n : ℕ => (((n : ℕ) : ℝ) : EReal)) hk).trans e1'.symm)⟩
  exact two_lines (fun j => (key j).1) fun j => (key j).2

/-- Every device's result is the reference's, and both leave their arguments as they were. -/
theorem algebraic : Cert.algebraic_KernelIdeal_ReferenceIdeal := by
  intro m g m' g' _ hm
  refine ⟨answer (m' (((0 : Dev Cert.ReferenceIdeal.nD).tc : Thread Cert.ReferenceIdeal.nD Cert.ReferenceIdeal.τ).loc
    Cert.ReferenceIdeal.main_arg0)), ?_, ?_⟩
  · exact (θ_run _ _ _).mono (fun r h c => ⟨(h.1 c).1.trans (out_eq m g _ _ hm c), (h.1 c).2⟩) (Cert.ArgmaxRun.run_main m g)
  · exact (θ_run _ _ _).mono (fun r h => h.1 0) (Cert.ArgmaxRef.run_main m' g')

end Cert.ArgmaxEquation

end
-- ==== Proof.lean ====
/-
# The claims together

The three programs run to their ends and leave everything as it was but their results, and the kernel's result is the
reference's. The mathematics lies in the modules imported here.
-/
module

public import proofs.«01_k».proof.Defs
public import proofs.«01_k».proof.Proof.Frames
public import proofs.«01_k».proof.Proof.Equation

@[expose] public section

noncomputable section

namespace Cert.Proof

/-- Everything claimed of the kernel and the reference. -/
theorem claim : Cert.Claim :=
  ⟨Cert.Kernel.Gen.facts, Cert.KernelIdeal.Gen.facts, Cert.ReferenceIdeal.Gen.facts, Cert.ArgmaxFrames.frame_kernel,
    Cert.ArgmaxFrames.frame_kernelIdeal, Cert.ArgmaxFrames.frame_referenceIdeal, trivial, Cert.ArgmaxEquation.algebraic⟩

end Cert.Proof

end
